-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14)
      ∧ r.2.mem ((c.tc : Thread Cert.Ffn.nD Cert.Ffn.τ).loc Cert.Ffn.main_arg15) = m ((c.tc : Thread Cert.Ffn.nD Cert.Ffn.τ).loc Cert.Ffn.main_arg15))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
      ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13)
      ∧ r.2.mem ((c.tc : Thread Cert.FfnRefIdeal.nD Cert.FfnRefIdeal.τ).loc Cert.FfnRefIdeal.main_arg14) = m ((c.tc : Thread Cert.FfnRefIdeal.nD Cert.FfnRefIdeal.τ).loc Cert.FfnRefIdeal.main_arg14)
      ∧ r.2.mem ((c.tc : Thread Cert.FfnRefIdeal.nD Cert.FfnRefIdeal.τ).loc Cert.FfnRefIdeal.main_arg15) = m ((c.tc : Thread Cert.FfnRefIdeal.nD Cert.FfnRefIdeal.τ).loc Cert.FfnRefIdeal.main_arg15))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)
      ∧ m' ((c.tc : Thread Cert.FfnRefIdeal.nD Cert.FfnRefIdeal.τ).loc Cert.FfnRefIdeal.main_arg14) = m ((c.tc : Thread Cert.FfnIdeal.nD Cert.FfnIdeal.τ).loc Cert.FfnIdeal.main_arg14)
      ∧ m' ((c.tc : Thread Cert.FfnRefIdeal.nD Cert.FfnRefIdeal.τ).loc Cert.FfnRefIdeal.main_arg15) = m ((c.tc : Thread Cert.FfnIdeal.nD Cert.FfnIdeal.τ).loc Cert.FfnIdeal.main_arg15)) →
    ∃ (v0 : (c : Dev Cert.FfnIdeal.nD) → Buf (Elt Ideal) ((c.tc : Thread Cert.FfnIdeal.nD Cert.FfnIdeal.τ).loc Cert.FfnIdeal.main_v27)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v27) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
          ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v104) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13)
          ∧ r.2.mem ((c.tc : Thread Cert.FfnRefIdeal.nD Cert.FfnRefIdeal.τ).loc Cert.FfnRefIdeal.main_arg14) = m' ((c.tc : Thread Cert.FfnRefIdeal.nD Cert.FfnRefIdeal.τ).loc Cert.FfnRefIdeal.main_arg14)
          ∧ r.2.mem ((c.tc : Thread Cert.FfnRefIdeal.nD Cert.FfnRefIdeal.τ).loc Cert.FfnRefIdeal.main_arg15) = m' ((c.tc : Thread Cert.FfnRefIdeal.nD Cert.FfnRefIdeal.τ).loc Cert.FfnRefIdeal.main_arg15))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v22_0)) (v1 : (c : Dev Cert.InprojIdeal.nD) → Buf (Elt Ideal) ((c.tc : Thread Cert.InprojIdeal.nD Cert.InprojIdeal.τ).loc Cert.InprojIdeal.main_v22_1)) (v2 : (c : Dev Cert.InprojIdeal.nD) → Buf (Elt Ideal) ((c.tc : Thread Cert.InprojIdeal.nD Cert.InprojIdeal.τ).loc Cert.InprojIdeal.main_v22_2)) (v3 : (c : Dev Cert.InprojIdeal.nD) → Buf (Elt Ideal) ((c.tc : Thread Cert.InprojIdeal.nD Cert.InprojIdeal.τ).loc Cert.InprojIdeal.main_v22_3)) (v4 : (c : Dev Cert.InprojIdeal.nD) → Buf (Elt Ideal) ((c.tc : Thread Cert.InprojIdeal.nD Cert.InprojIdeal.τ).loc Cert.InprojIdeal.main_v22_4)) (v5 : (c : Dev Cert.InprojIdeal.nD) → Buf (Elt Ideal) ((c.tc : Thread Cert.InprojIdeal.nD Cert.InprojIdeal.τ).loc Cert.InprojIdeal.main_v22_5)) (v6 : (c : Dev Cert.InprojIdeal.nD) → Buf (Elt Ideal) ((c.tc : Thread Cert.InprojIdeal.nD Cert.InprojIdeal.τ).loc Cert.InprojIdeal.main_v22_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v22_0) = v0 c
          ∧ r.2.mem ((c.tc : Thread Cert.InprojIdeal.nD Cert.InprojIdeal.τ).loc Cert.InprojIdeal.main_v22_1) = v1 c
          ∧ r.2.mem ((c.tc : Thread Cert.InprojIdeal.nD Cert.InprojIdeal.τ).loc Cert.InprojIdeal.main_v22_2) = v2 c
          ∧ r.2.mem ((c.tc : Thread Cert.InprojIdeal.nD Cert.InprojIdeal.τ).loc Cert.InprojIdeal.main_v22_3) = v3 c
          ∧ r.2.mem ((c.tc : Thread Cert.InprojIdeal.nD Cert.InprojIdeal.τ).loc Cert.InprojIdeal.main_v22_4) = v4 c
          ∧ r.2.mem ((c.tc : Thread Cert.InprojIdeal.nD Cert.InprojIdeal.τ).loc Cert.InprojIdeal.main_v22_5) = v5 c
          ∧ r.2.mem ((c.tc : Thread Cert.InprojIdeal.nD Cert.InprojIdeal.τ).loc Cert.InprojIdeal.main_v22_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v126) = v0 c
          ∧ r.2.mem ((c.tc : Thread Cert.InprojRefIdeal.nD Cert.InprojRefIdeal.τ).loc Cert.InprojRefIdeal.main_v128) = v1 c
          ∧ r.2.mem ((c.tc : Thread Cert.InprojRefIdeal.nD Cert.InprojRefIdeal.τ).loc Cert.InprojRefIdeal.main_v130) = v2 c
          ∧ r.2.mem ((c.tc : Thread Cert.InprojRefIdeal.nD Cert.InprojRefIdeal.τ).loc Cert.InprojRefIdeal.main_v132) = v3 c
          ∧ r.2.mem ((c.tc : Thread Cert.InprojRefIdeal.nD Cert.InprojRefIdeal.τ).loc Cert.InprojRefIdeal.main_v134) = v4 c
          ∧ r.2.mem ((c.tc : Thread Cert.InprojRefIdeal.nD Cert.InprojRefIdeal.τ).loc Cert.InprojRefIdeal.main_v141) = v5 c
          ∧ r.2.mem ((c.tc : Thread Cert.InprojRefIdeal.nD Cert.InprojRefIdeal.τ).loc Cert.InprojRefIdeal.main_v143) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
-- ==== Ffn.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x256x1024 : Shape := ⟨3, ![1, 256, 1024]⟩
abbrev S1024 : Shape := ⟨1, ![1024]⟩
abbrev S32768x1024 : Shape := ⟨2, ![32768, 1024]⟩
abbrev S32768x512 : Shape := ⟨2, ![32768, 512]⟩
abbrev S16x2048x256 : Shape := ⟨3, ![16, 2048, 256]⟩
abbrev S32768x256 : Shape := ⟨2, ![32768, 256]⟩
abbrev S1024x1024 : Shape := ⟨2, ![1024, 1024]⟩
abbrev S1024x2816 : Shape := ⟨2, ![1024, 2816]⟩
abbrev S2816x1024 : Shape := ⟨2, ![2816, 1024]⟩
abbrev S3x2816 : Shape := ⟨2, ![3, 2816]⟩
abbrev S2816 : Shape := ⟨1, ![2816]⟩
abbrev S256x1024 : Shape := ⟨2, ![256, 1024]⟩
abbrev S16x1024 : Shape := ⟨2, ![16, 1024]⟩
abbrev S1024x512 : Shape := ⟨2, ![1024, 512]⟩
abbrev S16x512 : Shape := ⟨2, ![16, 512]⟩
abbrev S1024x256 : Shape := ⟨2, ![1024, 256]⟩
abbrev S1056x1024 : Shape := ⟨2, ![1056, 1024]⟩
abbrev S1024x1 : Shape := ⟨2, ![1024, 1]⟩
abbrev S16 : Shape := ⟨1, ![16]⟩
abbrev S16x1 : Shape := ⟨2, ![16, 1]⟩
abbrev S1056x256 : Shape := ⟨2, ![1056, 256]⟩
abbrev S3x256 : Shape := ⟨2, ![3, 256]⟩
abbrev S1x256 : Shape := ⟨2, ![1, 256]⟩

abbrev nBuf : Space → Nat
  | .hbm => 44
  | .vmem => 37
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1x16x2048x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x3x2816, .f32⟩
  | .hbm, ⟨8, _⟩ => ⟨S1x2816, .f32⟩
  | .hbm, ⟨9, _⟩ => ⟨S1x1024x2816, .f32⟩
  | .hbm, ⟨10, _⟩ => ⟨S1x2816x1024, .f32⟩
  | .hbm, ⟨11, _⟩ => ⟨S1x1024, .f32⟩
  | .hbm, ⟨12, _⟩ => ⟨S1x1024x1024, .f32⟩
  | .hbm, ⟨13, _⟩ => ⟨S1x1024, .f32⟩
  | .hbm, ⟨14, _⟩ => ⟨S1x256x1024, .f32⟩
  | .hbm, ⟨15, _⟩ => ⟨S1024, .f32⟩
  | .hbm, ⟨16, _⟩ => ⟨S32768x1024, .f32⟩
  | .hbm, ⟨17, _⟩ => ⟨S32768x512, .bf16⟩
  | .hbm, ⟨18, _⟩ => ⟨S32768x512, .bf16⟩
  | .hbm, ⟨19, _⟩ => ⟨S16x2048x256, .f32⟩
  | .hbm, ⟨20, _⟩ => ⟨S32768x256, .f32⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024x2816, .f32⟩
  | .hbm, ⟨26, _⟩ => ⟨S1024x2816, .bf16⟩
  | .hbm, ⟨27, _⟩ => ⟨S1024x2816, .f32⟩
  | .hbm, ⟨28, _⟩ => ⟨S1024x2816, .bf16⟩
  | .hbm, ⟨29, _⟩ => ⟨S2816x1024, .f32⟩
  | .hbm, ⟨30, _⟩ => ⟨S2816x1024, .bf16⟩
  | .hbm, ⟨31, _⟩ => ⟨S3x2816, .f32⟩
  | .hbm, ⟨32, _⟩ => ⟨S2816, .f32⟩
  | .hbm, ⟨33, _⟩ => ⟨S1x2816, .f32⟩
  | .hbm, ⟨34, _⟩ => ⟨S1024, .f32⟩
  | .hbm, ⟨35, _⟩ => ⟨S1x1024, .f32⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S256x1024, .f32⟩
  | .hbm, ⟨41, _⟩ => ⟨S256x1024, .bf16⟩
  | .hbm, ⟨42, _⟩ => ⟨S1x1024, .f32⟩
  | .hbm, ⟨43, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1024x512, .bf16⟩
  | .local _ .vmem, ⟨13, _⟩ => ⟨S1024x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S1024x256, .f32⟩
  | .local _ .vmem, ⟨19, _⟩ => ⟨S1024x256, .f32⟩
  | .local _ .vmem, ⟨20, _⟩ => ⟨S1024x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S3x2816, .f32⟩
  | .local _ .vmem, ⟨26, _⟩ => ⟨S1x2816, .f32⟩
  | .local _ .vmem, ⟨27, _⟩ => ⟨S1x1024, .f32⟩
  | .local _ .vmem, ⟨28, _⟩ => ⟨S1024x1024, .bf16⟩
  | .local _ .vmem, ⟨29, _⟩ => ⟨S1x1024, .f32⟩
  | .local _ .vmem, ⟨30, _⟩ => ⟨S256x1024, .bf16⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | .local _ .vmem, ⟨34, _⟩ => ⟨S1056x1024, .bf16⟩
  | .local _ .vmem, ⟨35, _⟩ => ⟨S1056x1024, .bf16⟩
  | .local _ .vmem, ⟨36, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1024x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== FfnRefIdeal.lean ====
abbrev S16x2048x1024 : Shape := ⟨3, ![16, 2048, 1024]⟩
abbrev S16x2048x512 : Shape := ⟨3, ![16, 2048, 512]⟩
abbrev S1x16x2048x256 : Shape := ⟨4, ![1, 16, 2048, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S16x2048x2816 : Shape := ⟨3, ![16, 2048, 2816]⟩
abbrev S16x2050x2816 : Shape := ⟨3, ![16, 2050, 2816]⟩
abbrev S1x1x2816 : Shape := ⟨3, ![1, 1, 2816]⟩
abbrev S16x2048x256 : Shape := ⟨3, ![16, 2048, 256]⟩
abbrev S256x1024 : Shape := ⟨2, ![256, 1024]⟩
abbrev S32768x1024 : Shape := ⟨2, ![32768, 1024]⟩

abbrev nBuf : Space → Nat
  | .hbm => 136
  | .vmem => 0
  | .smem => 0
  | _ => 0

abbrev hbmTy0_0 (i : Nat) : BufTy := match i % 128 with
  | 0 => ⟨S16x2048x1024, .f32⟩
  | 1 => ⟨S16x2048x512, .bf16⟩
  | 2 => ⟨S16x2048x512, .bf16⟩
  | 3 => ⟨S1x16x2048x256, .f32⟩
  | 4 => ⟨S1x1024x1024, .f32⟩
  | 5 => ⟨S1x1024, .f32⟩
  | 6 => ⟨S1x1024x2816, .f32⟩
  | 7 => ⟨S1x3x2816, .f32⟩
  | 8 => ⟨S1x2816, .f32⟩
  | 9 => ⟨S1x1024x2816, .f32⟩
  | 10 => ⟨S1x2816x1024, .f32⟩
  | 11 => ⟨S1x1024, .f32⟩
  | 12 => ⟨S1x1024x1024, .f32⟩
  | 13 => ⟨S1x1024, .f32⟩
  | 14 => ⟨S1x256x1024, .f32⟩
  | 15 => ⟨S1024, .f32⟩
  | 16 => ⟨S16x2048x1024, .bf16⟩
  | 17 => ⟨S16x2048x1024, .f32⟩
  | 18 => ⟨S1024x1024, .f32⟩
  | 19 => ⟨S16x2048x1024, .f32⟩
  | 20 => ⟨S16x2048x1024, .f32⟩
  | 21 => ⟨S1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S_, .f32⟩
  | 30 => ⟨S16x2048x1, .f32⟩
  | 31 => ⟨S16x2048x1, .f32⟩
  | 32 => ⟨S16x2048x1, .f32⟩
  | 33 => ⟨S16x2048x1024, .f32⟩
  | 34 => ⟨S16x2048x1024, .f32⟩
  | 35 => ⟨S1x1x1024, .f32⟩
  | 36 => ⟨S16x2048x1024, .f32⟩
  | 37 => ⟨S16x2048x1024, .f32⟩
  | 38 => ⟨S1024x2816, .f32⟩
  | 39 => ⟨S3x2816, .f32⟩
  | 40 => ⟨S2816, .f32⟩
  | 41 => ⟨S1024x2816, .f32⟩
  | 42 => ⟨S2816x1024, .f32⟩
  | 43 => ⟨S16x2048x2816, .f32⟩
  | 44 => ⟨S_, .i32⟩
  | 45 => ⟨S_, .f32⟩
  | 46 => ⟨S16x2050x2816, .f32⟩
  | 47 => ⟨S16x2048x2816, .f32⟩
  | 48 => ⟨S1x2816, .f32⟩
  | 49 => ⟨S2816, .f32⟩
  | 50 => ⟨S1x1x2816, .f32⟩
  | 51 => ⟨S16x2048x2816, .f32⟩
  | 52 => ⟨S16x2048x2816, .f32⟩
  | 53 => ⟨S16x2048x2816, .f32⟩
  | 54 => ⟨S1x2816, .f32⟩
  | 55 => ⟨S2816, .f32⟩
  | 56 => ⟨S1x1x2816, .f32⟩
  | 57 => ⟨S16x2048x2816, .f32⟩
  | 58 => ⟨S16x2048x2816, .f32⟩
  | 59 => ⟨S16x2048x2816, .f32⟩
  | 60 => ⟨S16x2048x2816, .f32⟩
  | 61 => ⟨S1x2816, .f32⟩
  | 62 => ⟨S2816, .f32⟩
  | 63 => ⟨S1x1x2816, .f32⟩
  | 64 => ⟨S16x2048x2816, .f32⟩
  | 65 => ⟨S16x2048x2816, .f32⟩
  | 66 => ⟨S16x2048x2816, .f32⟩
  | 67 => ⟨S1x1x2816, .f32⟩
  | 68 => ⟨S16x2048x2816, .f32⟩
  | 69 => ⟨S16x2048x2816, .f32⟩
  | 70 => ⟨S_, .f32⟩
  | 71 => ⟨S16x2048x2816, .f32⟩
  | 72 => ⟨S16x2048x2816, .f32⟩
  | 73 => ⟨S16x2048x2816, .f32⟩
  | 74 => ⟨S_, .f32⟩
  | 75 => ⟨S16x2048x2816, .f32⟩
  | 76 => ⟨S16x2048x2816, .f32⟩
  | 77 => ⟨S16x2048x2816, .f32⟩
  | 78 => ⟨S16x2048x2816, .f32⟩
  | 79 => ⟨S16x2048x2816, .f32⟩
  | 80 => ⟨S16x2048x2816, .f32⟩
  | 81 => ⟨S16x2048x1024, .f32⟩
  | 82 => ⟨S16x2048x1024, .f32⟩
  | 83 => ⟨S1024, .f32⟩
  | 84 => ⟨S16x2048x1024, .f32⟩
  | 85 => ⟨S_, .f32⟩
  | 86 => ⟨S16x2048, .f32⟩
  | 87 => ⟨S16x2048x1, .f32⟩
  | 88 => ⟨S_, .f32⟩
  | 89 => ⟨S16x2048x1, .f32⟩
  | 90 => ⟨S16x2048x1, .f32⟩
  | 91 => ⟨S_, .f32⟩
  | 92 => ⟨S16x2048x1, .f32⟩
  | 93 => ⟨S16x2048x1, .f32⟩
  | 94 => ⟨S16x2048x1, .f32⟩
  | 95 => ⟨S16x2048x1024, .f32⟩
  | 96 => ⟨S16x2048x1024, .f32⟩
  | 97 => ⟨S1x1x1024, .f32⟩
  | 98 => ⟨S16x2048x1024, .f32⟩
  | 99 => ⟨S16x2048x1024, .f32⟩
  | 100 => ⟨S16x2048x256, .f32⟩
  | 101 => ⟨S256x1024, .f32⟩
  | 102 => ⟨S16x2048x1024, .f32⟩
  | 103 => ⟨S1024x1024, .f32⟩
  | 104 => ⟨S16x2048x1024, .f32⟩
  | 105 => ⟨S1024, .f32⟩
  | 106 => ⟨S1x1x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S_, .f32⟩
  | 112 => ⟨S16x2048x1024, .f32⟩
  | 113 => ⟨S16x2048x1024, .f32⟩
  | 114 => ⟨S_, .f32⟩
  | 115 => ⟨S16x2048x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S_, .f32⟩
  | 121 => ⟨S16x2048, .f32⟩
  | 122 => ⟨S16x2048x1, .f32⟩
  | 123 => ⟨S_, .f32⟩
  | 124 => ⟨S16x2048x1, .f32⟩
  | 125 => ⟨S16x2048x1, .f32⟩
  | 126 => ⟨S_, .f32⟩
  | 127 => ⟨S16x2048x1, .f32⟩
  | _ => ⟨S16x2048x1024, .f32⟩

abbrev hbmTy0_1 (i : Nat) : BufTy := match i % 128 with
  | 0 => ⟨S16x2048x1, .f32⟩
  | 1 => ⟨S16x2048x1, .f32⟩
  | 2 => ⟨S16x2048x1024, .f32⟩
  | 3 => ⟨S16x2048x1024, .f32⟩
  | 4 => ⟨S1x1x1024, .f32⟩
  | 5 => ⟨S16x2048x1024, .f32⟩
  | 6 => ⟨S16x2048x1024, .f32⟩
  | 7 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_call0_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_4 : Ref sig .tc := ⟨.hbm, 85, rfl⟩
abbrev main_v62 : Ref sig .tc := ⟨.hbm, 86, rfl⟩
abbrev main_v63 : Ref sig .tc := ⟨.hbm, 87, rfl⟩
abbrev main_cst_5 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_7 : Ref sig .tc := ⟨.hbm, 111, rfl⟩
abbrev main_v85 : Ref sig .tc := ⟨.hbm, 112, rfl⟩
abbrev main_v86 : Ref sig .tc := ⟨.hbm, 113, rfl⟩
abbrev main_cst_8 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_9 : Ref sig .tc := ⟨.hbm, 120, rfl⟩
abbrev main_v92 : Ref sig .tc := ⟨.hbm, 121, rfl⟩
abbrev main_v93 : Ref sig .tc := ⟨.hbm, 122, rfl⟩
abbrev main_cst_10 : Ref sig .tc := ⟨.hbm, 123, rfl⟩
abbrev main_v94 : Ref sig .tc := ⟨.hbm, 124, rfl⟩
abbrev main_v95 : Ref sig .tc := ⟨.hbm, 125, rfl⟩
abbrev main_cst_11 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩

abbrev nD : Nat := 1
abbrev τ : Topo := Topo.v7x

variable {F : FTy → Type} [FloatOps F]
-- ==== Inproj.lean ====
abbrev S16x2048x1024 : Shape := ⟨3, ![16, 2048, 1024]⟩
abbrev S16x2048 : Shape := ⟨2, ![16, 2048]⟩
abbrev S1x1024 : Shape := ⟨2, ![1, 1024]⟩
abbrev S1x1024x3088 : Shape := ⟨3, ![1, 1024, 3088]⟩
abbrev S1x3x512 : Shape := ⟨3, ![1, 3, 512]⟩
abbrev S1x512 : Shape := ⟨2, ![1, 512]⟩
abbrev S16x256 : Shape := ⟨2, ![16, 256]⟩
abbrev S1x128 : Shape := ⟨2, ![1, 128]⟩
abbrev S1024x3088 : Shape := ⟨2, ![1024, 3088]⟩
abbrev S_ : Shape := ⟨0, ![]⟩
abbrev S1024x3200 : Shape := ⟨2, ![1024, 3200]⟩
abbrev S32768x1024 : Shape := ⟨2, ![32768, 1024]⟩
abbrev S32x1x1024 : Shape := ⟨3, ![32, 1, 1024]⟩
abbrev S1024 : Shape := ⟨1, ![1024]⟩
abbrev S3x512 : Shape := ⟨2, ![3, 512]⟩
abbrev S512 : Shape := ⟨1, ![512]⟩
abbrev S8 : Shape := ⟨1, ![8]⟩
abbrev S16 : Shape := ⟨1, ![16]⟩
abbrev S16x1 : Shape := ⟨2, ![16, 1]⟩
abbrev S16x4x2048x128 : Shape := ⟨4, ![16, 4, 2048, 128]⟩
abbrev S32768x512 : Shape := ⟨2, ![32768, 512]⟩
abbrev S16x32768 : Shape := ⟨2, ![16, 32768]⟩
abbrev S1024x1024 : Shape := ⟨2, ![1024, 1024]⟩
abbrev S16x1024 : Shape := ⟨2, ![16, 1024]⟩
abbrev S1x1x1024 : Shape := ⟨3, ![1, 1, 1024]⟩
abbrev S1x4x1024x128 : Shape := ⟨4, ![1, 4, 1024, 128]⟩
abbrev S1024x512 : Shape := ⟨2, ![1024, 512]⟩
abbrev S1056x1024 : Shape := ⟨2, ![1056, 1024]⟩
abbrev S1024x256 : Shape := ⟨2, ![1024, 256]⟩
abbrev S1024x128 : Shape := ⟨2, ![1024, 128]⟩
abbrev S1024x1 : Shape := ⟨2, ![1024, 1]⟩
abbrev S1024x1536 : Shape := ⟨2, ![1024, 1536]⟩
abbrev S1x1x1024x128 : Shape := ⟨4, ![1, 1, 1024, 128]⟩
abbrev S1056x1 : Shape := ⟨2, ![1056, 1]⟩
abbrev S1056x512 : Shape := ⟨2, ![1056, 512]⟩
abbrev S128x1024 : Shape := ⟨2, ![128, 1024]⟩

abbrev nBuf : Space → Nat
  | .hbm => 43
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1x1024, .f32⟩
  | .hbm, ⟨3, _⟩ => ⟨S1x1024x3088, .f32⟩
  | .hbm, ⟨4, _⟩ => ⟨S1x3x512, .f32⟩
  | .hbm, ⟨5, _⟩ => ⟨S1x512, .f32⟩
  | .hbm, ⟨6, _⟩ => ⟨S16x256, .bf16⟩
  | .hbm, ⟨7, _⟩ => ⟨S1x128, .f32⟩
  | .hbm, ⟨8, _⟩ => ⟨S1024x3088, .f32⟩
  | .hbm, ⟨9, _⟩ => ⟨S_, .i32⟩
  | .hbm, ⟨10, _⟩ => ⟨S_, .f32⟩
  | .hbm, ⟨11, _⟩ => ⟨S1024x3200, .f32⟩
  | .hbm, ⟨12, _⟩ => ⟨S1024x3200, .bf16⟩
  | .hbm, ⟨13, _⟩ => ⟨S32768x1024, .f32⟩
  | .hbm, ⟨14, _⟩ => ⟨S32x1x1024, .i32⟩
  | .hbm, ⟨15, _⟩ => ⟨S1024, .f32⟩
  | .hbm, ⟨16, _⟩ => ⟨S1x1024, .f32⟩
  | .hbm, ⟨17, _⟩ => ⟨S3x512, .f32⟩
  | .hbm, ⟨18, _⟩ => ⟨S512, .f32⟩
  | .hbm, ⟨19, _⟩ => ⟨S1x512, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S16, .f32⟩
  | .hbm, ⟨35, _⟩ => ⟨S16x1, .f32⟩
  | .hbm, ⟨36, _⟩ => ⟨S16x4x2048x128, .f32⟩
  | .hbm, ⟨37, _⟩ => ⟨S16x4x2048x128, .f32⟩
  | .hbm, ⟨38, _⟩ => ⟨S16x4x2048x128, .f32⟩
  | .hbm, ⟨39, _⟩ => ⟨S32768x512, .bf16⟩
  | .hbm, ⟨40, _⟩ => ⟨S32768x512, .bf16⟩
  | .hbm, ⟨41, _⟩ => ⟨S32768x512, .f32⟩
  | .hbm, ⟨42, _⟩ => ⟨S16x32768, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1x1024, .i32⟩
  | .local _ .vmem, ⟨7, _⟩ => ⟨S1x1x1024, .i32⟩
  | .local _ .vmem, ⟨8, _⟩ => ⟨S1x1024, .f32⟩
  | .local _ .vmem, ⟨9, _⟩ => ⟨S16x1, .f32⟩
  | .local _ .vmem, ⟨10, _⟩ => ⟨S16x256, .bf16⟩
  | .local _ .vmem, ⟨11, _⟩ => ⟨S1x128, .f32⟩
  | .local _ .vmem, ⟨12, _⟩ => ⟨S1024x3200, .bf16⟩
  | .local _ .vmem, ⟨13, _⟩ => ⟨S3x512, .f32⟩
  | .local _ .vmem, ⟨14, _⟩ => ⟨S1x512, .f32⟩
  | .local _ .vmem, ⟨15, _⟩ => ⟨S1x4x1024x128, .f32⟩
  | .local _ .vmem, ⟨16, _⟩ => ⟨S1x4x1024x128, .f32⟩
  | .local _ .vmem, ⟨17, _⟩ => ⟨S1x4x1024x128, .f32⟩
  | .local _ .vmem, ⟨18, _⟩ => ⟨S1x4x1024x128, .f32⟩
  | .local _ .vmem, ⟨19, _⟩ => ⟨S1x4x1024x128, .f32⟩
  | .local _ .vmem, ⟨20, _⟩ => ⟨S1x4x1024x128, .f32⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .f32⟩
  | .local _ .vmem, ⟨26, _⟩ => ⟨S1024x512, .f32⟩
  | .local _ .vmem, ⟨27, _⟩ => ⟨S16x1024, .f32⟩
  | .local _ .vmem, ⟨28, _⟩ => ⟨S16x1024, .f32⟩
  | .local _ .vmem, ⟨29, _⟩ => ⟨S1056x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev main_v22_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3200 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojRefIdeal.lean ====
abbrev S16x2048x1024 : Shape := ⟨3, ![16, 2048, 1024]⟩
abbrev S16x2048 : Shape := ⟨2, ![16, 2048]⟩
abbrev S1x1024 : Shape := ⟨2, ![1, 1024]⟩
abbrev S1x1024x3088 : Shape := ⟨3, ![1, 1024, 3088]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S16x2048x1 : Shape := ⟨3, ![16, 2048, 1]⟩
abbrev S1x1x1024 : Shape := ⟨3, ![1, 1, 1024]⟩
abbrev S1024x3088 : Shape := ⟨2, ![1024, 3088]⟩
abbrev S16x2048x3088 : Shape := ⟨3, ![16, 2048, 3088]⟩
abbrev S16x2048x512 : Shape := ⟨3, ![16, 2048, 512]⟩
abbrev S16x2048x8x64 : Shape := ⟨4, ![16, 2048, 8, 64]⟩
abbrev S16x2048x16 : Shape := ⟨3, ![16, 2048, 16]⟩
abbrev S8 : Shape := ⟨1, ![8]⟩
abbrev S1x1x8 : Shape := ⟨3, ![1, 1, 8]⟩
abbrev S16x2048x8 : Shape := ⟨3, ![16, 2048, 8]⟩
abbrev S16x2048x1x8 : Shape := ⟨4, ![16, 2048, 1, 8]⟩
abbrev S16x2048x8x8 : Shape := ⟨4, ![16, 2048, 8, 8]⟩
abbrev S16x2048x8x48 : Shape := ⟨4, ![16, 2048, 8, 48]⟩
abbrev S3x512 : Shape := ⟨2, ![3, 512]⟩
abbrev S512 : Shape := ⟨1, ![512]⟩
abbrev S16x2050x512 : Shape := ⟨3, ![16, 2050, 512]⟩
abbrev S1x1x512 : Shape := ⟨3, ![1, 1, 512]⟩
abbrev S16x2048x4x128 : Shape := ⟨4, ![16, 2048, 4, 128]⟩
abbrev S16x4x2048x128 : Shape := ⟨4, ![16, 4, 2048, 128]⟩
abbrev S32768x512 : Shape := ⟨2, ![32768, 512]⟩
abbrev S32768x16 : Shape := ⟨2, ![32768, 16]⟩
abbrev S16x32768 : Shape := ⟨2, ![16, 32768]⟩

abbrev nBuf : Space → Nat
  | .hbm => 175
  | .vmem => 0
  | .smem => 0
  | _ => 0

abbrev hbmTy0_0 (i : Nat) : BufTy := match i % 128 with
  | 0 => ⟨S16x2048x1024, .f32⟩
  | 1 => ⟨S16x2048, .i32⟩
  | 2 => ⟨S1x1024, .f32⟩
  | 3 => ⟨S1x1024x3088, .f32⟩
  | 4 => ⟨S1x3x512, .f32⟩
  | 5 => ⟨S1x512, .f32⟩
  | 6 => ⟨S1024, .f32⟩
  | 7 => ⟨S16x2048x1024, .f32⟩
  | 8 => ⟨S_, .f32⟩
  | 9 => ⟨S16x2048, .f32⟩
  | 10 => ⟨S16x2048x1, .f32⟩
  | 11 => ⟨S_, .f32⟩
  | 12 => ⟨S16x2048x1, .f32⟩
  | 13 => ⟨S16x2048x1, .f32⟩
  | 14 => ⟨S_, .f32⟩
  | 15 => ⟨S16x2048x1, .f32⟩
  | 16 => ⟨S16x2048x1, .f32⟩
  | 17 => ⟨S16x2048x1, .f32⟩
  | 18 => ⟨S16x2048x1024, .f32⟩
  | 19 => ⟨S16x2048x1024, .f32⟩
  | 20 => ⟨S1x1x1024, .f32⟩
  | 21 => ⟨S16x2048x1024, .f32⟩
  | 22 => ⟨S16x2048x1024, .f32⟩
  | 23 => ⟨S1024x3088, .f32⟩
  | 24 => ⟨S16x2048x3088, .f32⟩
  | 25 => ⟨S16x2048x512, .f32⟩
  | 26 => ⟨S16x2048x8x64, .f32⟩
  | 27 => ⟨S16x2048x512, .f32⟩
  | 28 => ⟨S16x2048x8x64, .f32⟩
  | 29 => ⟨S16x2048x512, .f32⟩
  | 30 => ⟨S16x2048x8x64, .f32⟩
  | 31 => ⟨S16x2048x512, .f32⟩
  | 32 => ⟨S16x2048x512, .f32⟩
  | 33 => ⟨S16x2048x512, .f32⟩
  | 34 => ⟨S16x2048x16, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S16x2048, .f32⟩
  | 50 => ⟨S16x2048x1, .f32⟩
  | 51 => ⟨S1x1x8, .f32⟩
  | 52 => ⟨S16x2048x8, .f32⟩
  | 53 => ⟨S16x2048x8, .f32⟩
  | 54 => ⟨S16x2048x8, .f32⟩
  | 55 => ⟨S16x2048x8, .f32⟩
  | 56 => ⟨S16x2048x1x8, .f32⟩
  | 57 => ⟨S16x2048x8, .f32⟩
  | 58 => ⟨S16x2048x1x8, .f32⟩
  | 59 => ⟨S16x2048x8x8, .f32⟩
  | 60 => ⟨S16x2048x8x8, .f32⟩
  | 61 => ⟨S16x2048x8x8, .f32⟩
  | 62 => ⟨S16x2048x8x8, .f32⟩
  | 63 => ⟨S16x2048x8x8, .f32⟩
  | 64 => ⟨S16x2048x8x8, .f32⟩
  | 65 => ⟨S16x2048x8x8, .f32⟩
  | 66 => ⟨S16x2048x8x8, .f32⟩
  | 67 => ⟨S16x2048x8x8, .f32⟩
  | 68 => ⟨S16x2048x8x8, .f32⟩
  | 69 => ⟨S16x2048x8x8, .f32⟩
  | 70 => ⟨S16x2048x8x8, .f32⟩
  | 71 => ⟨S16x2048x8x48, .f32⟩
  | 72 => ⟨S16x2048x8x64, .f32⟩
  | 73 => ⟨S_, .f32⟩
  | 74 => ⟨S16x2048x8x64, .f32⟩
  | 75 => ⟨S16x2048x8x64, .f32⟩
  | 76 => ⟨S_, .f32⟩
  | 77 => ⟨S16x2048x8x64, .f32⟩
  | 78 => ⟨S16x2048x8x64, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S16x2048, .f32⟩
  | 94 => ⟨S16x2048x1, .f32⟩
  | 95 => ⟨S1x1x8, .f32⟩
  | 96 => ⟨S16x2048x8, .f32⟩
  | 97 => ⟨S16x2048x8, .f32⟩
  | 98 => ⟨S16x2048x8, .f32⟩
  | 99 => ⟨S16x2048x8, .f32⟩
  | 100 => ⟨S16x2048x1x8, .f32⟩
  | 101 => ⟨S16x2048x8, .f32⟩
  | 102 => ⟨S16x2048x1x8, .f32⟩
  | 103 => ⟨S16x2048x8x8, .f32⟩
  | 104 => ⟨S16x2048x8x8, .f32⟩
  | 105 => ⟨S16x2048x8x8, .f32⟩
  | 106 => ⟨S16x2048x8x8, .f32⟩
  | 107 => ⟨S16x2048x8x8, .f32⟩
  | 108 => ⟨S16x2048x8x8, .f32⟩
  | 109 => ⟨S16x2048x8x8, .f32⟩
  | 110 => ⟨S16x2048x8x8, .f32⟩
  | 111 => ⟨S16x2048x8x8, .f32⟩
  | 112 => ⟨S16x2048x8x8, .f32⟩
  | 113 => ⟨S16x2048x8x8, .f32⟩
  | 114 => ⟨S16x2048x8x8, .f32⟩
  | 115 => ⟨S16x2048x8x48, .f32⟩
  | 116 => ⟨S16x2048x8x64, .f32⟩
  | 117 => ⟨S3x512, .f32⟩
  | 118 => ⟨S512, .f32⟩
  | 119 => ⟨S_, .i32⟩
  | 120 => ⟨S_, .f32⟩
  | 121 => ⟨S16x2050x512, .f32⟩
  | 122 => ⟨S16x2048x512, .f32⟩
  | 123 => ⟨S1x512, .f32⟩
  | 124 => ⟨S512, .f32⟩
  | 125 => ⟨S1x1x512, .f32⟩
  | 126 => ⟨S16x2048x512, .f32⟩
  | 127 => ⟨S16x2048x512, .f32⟩
  | _ => ⟨S16x2048x1024, .f32⟩

abbrev hbmTy0_1 (i : Nat) : BufTy := match i % 128 with
  | 0 => ⟨S16x2048x512, .f32⟩
  | 1 => ⟨S1x512, .f32⟩
  | 2 => ⟨S512, .f32⟩
  | 3 => ⟨S1x1x512, .f32⟩
  | 4 => ⟨S16x2048x512, .f32⟩
  | 5 => ⟨S16x2048x512, .f32⟩
  | 6 => ⟨S16x2048x512, .f32⟩
  | 7 => ⟨S16x2048x512, .f32⟩
  | 8 => ⟨S1x512, .f32⟩
  | 9 => ⟨S512, .f32⟩
  | 10 => ⟨S1x1x512, .f32⟩
  | 11 => ⟨S16x2048x512, .f32⟩
  | 12 => ⟨S16x2048x512, .f32⟩
  | 13 => ⟨S16x2048x512, .f32⟩
  | 14 => ⟨S1x1x512, .f32⟩
  | 15 => ⟨S16x2048x512, .f32⟩
  | 16 => ⟨S16x2048x512, .f32⟩
  | 17 => ⟨S16x2048x512, .f32⟩
  | 18 => ⟨S16x2048x512, .f32⟩
  | 19 => ⟨S_, .f32⟩
  | 20 => ⟨S16x2048x512, .f32⟩
  | 21 => ⟨S16x2048x512, .f32⟩
  | 22 => ⟨S_, .f32⟩
  | 23 => ⟨S16x2048x512, .f32⟩
  | 24 => ⟨S16x2048x512, .f32⟩
  | 25 => ⟨S16x2048x512, .f32⟩
  | 26 => ⟨S16x2048x4x128, .f32⟩
  | 27 => ⟨S16x4x2048x128, .f32⟩
  | 28 => ⟨S16x2048x4x128, .f32⟩
  | 29 => ⟨S16x4x2048x128, .f32⟩
  | 30 => ⟨S16x2048x4x128, .f32⟩
  | 31 => ⟨S16x4x2048x128, .f32⟩
  | 32 => ⟨S32768x512, .f32⟩
  | 33 => ⟨S32768x512, .bf16⟩
  | 34 => ⟨S32768x512, .f32⟩
  | 35 => ⟨S32768x512, .bf16⟩
  | 36 => ⟨S16x2048x512, .f32⟩
  | 37 => ⟨S16x2048x512, .f32⟩
  | 38 => ⟨S_, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S32768x512, .f32⟩
  | 45 => ⟨S32768x16, .f32⟩
  | 46 => ⟨S16x32768, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_c : Ref sig .tc := ⟨.hbm, 119, rfl⟩
abbrev main_call0_v0 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_call1_v0 : Ref sig .tc := ⟨.hbm, 145, rfl⟩
abbrev main_call1_v1 : Ref sig .tc := ⟨.hbm, 146, rfl⟩
abbrev main_call1_cst : Ref sig .tc := ⟨.hbm, 147, rfl⟩
abbrev main_call1_v2 : Ref sig .tc := ⟨.hbm, 148, rfl⟩
abbrev main_call1_v3 : Ref sig .tc := ⟨.hbm, 149, rfl⟩
abbrev main_call1_cst_0 : Ref sig .tc := ⟨.hbm, 150, rfl⟩
abbrev main_call1_v4 : Ref sig .tc := ⟨.hbm, 151, rfl⟩
abbrev main_call1_v5 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_12 : Ref sig .tc := ⟨.hbm, 166, rfl⟩
abbrev main_v137 : Ref sig .tc := ⟨.hbm, 167, rfl⟩
abbrev main_v138 : Ref sig .tc := ⟨.hbm, 168, rfl⟩
abbrev main_cst_13 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== Proof.FfnRun.lean ====
/- One run of the fused out-projection / feed-forward / embedding kernel's body over its printed skeleton. -/
module

public import proofs.«01_k».proof.Proof.Gen.FfnIdeal.Frame.Runs

@[expose] public section

set_option maxRecDepth 16384

noncomputable section

namespace Cert.FfnIdeal.Tile

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the body is a straight line of 212 statements; its run takes more than the default budget
set_option maxHeartbeats 2400000 in
/-- The body of the kernel, run once at grid coordinates `i` on whole staging buffers that hold the blocks
    `x0 … x21`: the lists of pieces its stores leave in the output block (`L22`), in the assembled mixer
    rows (`LT0`), in the normalised rows (`LT1`) and in the gated activations (`LT2`), last store first,
    together with the proof that from the inputs' blocks and any contents of the other buffers the body
    runs to its end with the inputs as they were and exactly these pieces written. -/
def tileRun (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S1024x256 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S3x2816 .f32) (harg16 : arg16.IsWhole) (arg17 : Memref sig .tc .vmem S1x2816 .f32) (harg17 : arg17.IsWhole) (arg18 : Memref sig .tc .vmem S1x1024 .f32) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1x1024 .f32) (harg22 : arg22.IsWhole) (arg23 : Memref sig .tc .vmem S1024x1024 .f32) (harg23 : arg23.IsWhole) (arg24 : Memref sig .tc .vmem S1056x1024 .bf16) (harg24 : arg24.IsWhole) (arg25 : Memref sig .tc .vmem S1056x1024 .bf16) (harg25 : arg25.IsWhole) (arg26 : Memref sig .tc .vmem S1024x2816 .bf16) (harg26 : arg26.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S1024x256 .f32) (x10 : Vec F S1024x1024 .bf16) (x11 : Vec F S1x1024 .f32) (x12 : Vec F S1024x2816 .bf16) (x13 : Vec F S1024x2816 .bf16) (x14 : Vec F S2816x1024 .bf16) (x15 : Vec F S3x2816 .f32) (x16 : Vec F S1x2816 .f32) (x17 : Vec F S1x1024 .f32) (x18 : Vec F S1024x1024 .bf16) (x19 : Vec F S1x1024 .f32) (x20 : Vec F S256x1024 .bf16) (x21 : Vec F S1x1024 .f32) :
    Σ' (L22 : List (View.Piece (Elt F) S1024x1024 .f32)), Σ' (LT0 : List (View.Piece (Elt F) S1056x1024 .bf16)), Σ' (LT1 : List (View.Piece (Elt F) S1056x1024 .bf16)), { LT2 : List (View.Piece (Elt F) S1024x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0) ∗ (∃ f, arg25.view.loc (c : Thread nD τ) ↦[arg25.view.set]{fullShare} arg25.view.writes (Elt F) f LT1) ∗ (∃ f, arg26.view.loc (c : Thread nD τ) ↦[arg26.view.set]{fullShare} arg26.view.writes (Elt F) f LT2)) -∗ K ⟨⟩))
          ⊢ wp frame (wpE (defs₀ (F := F)) Variants.none c none) E (cc0_outproj_ffn_ple i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, fun E K => ?run⟩
  case run =>
    simp only [cc0_outproj_ffn_ple_eq_skeleton]; unfold cc0_outproj_ffn_ple_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    isplitl [HS1]; · iexists _; iexact HS1
    iexists _; iexact HS2

end Cert.FfnIdeal.Tile

end
-- ==== Proof.FfnFrame.lean ====
/- The launch of the fused kernel: the run of its body at every grid point, the run of the whole program, the
   argument arrays unchanged, and the result array block by block. -/
module

public import proofs.«01_k».proof.Proof.FfnRun
public import Idealize.ShloMosaic.Lib.Claim
public import Idealize.ShloMosaic.Lib.Pipeline.Value

@[expose] public section

set_option maxRecDepth 16384

noncomputable section

namespace Cert.FfnIdeal.Tile

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into the output block tile it, so every index of the block is written. -/
theorem tile_cover (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S1024x256 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S3x2816 .f32) (harg16 : arg16.IsWhole) (arg17 : Memref sig .tc .vmem S1x2816 .f32) (harg17 : arg17.IsWhole) (arg18 : Memref sig .tc .vmem S1x1024 .f32) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1x1024 .f32) (harg22 : arg22.IsWhole) (arg23 : Memref sig .tc .vmem S1024x1024 .f32) (harg23 : arg23.IsWhole) (arg24 : Memref sig .tc .vmem S1056x1024 .bf16) (harg24 : arg24.IsWhole) (arg25 : Memref sig .tc .vmem S1056x1024 .bf16) (harg25 : arg25.IsWhole) (arg26 : Memref sig .tc .vmem S1024x2816 .bf16) (harg26 : arg26.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S1024x256 .f32) (x10 : Vec F S1024x1024 .bf16) (x11 : Vec F S1x1024 .f32) (x12 : Vec F S1024x2816 .bf16) (x13 : Vec F S1024x2816 .bf16) (x14 : Vec F S2816x1024 .bf16) (x15 : Vec F S3x2816 .f32) (x16 : Vec F S1x2816 .f32) (x17 : Vec F S1x1024 .f32) (x18 : Vec F S1024x1024 .bf16) (x19 : Vec F S1x1024 .f32) (x20 : Vec F S256x1024 .bf16) (x21 : Vec F S1x1024 .f32) (y : S1024x1024.Idx) :
    ∃ pc ∈ (tileRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1, y ∈ pc.1.set :=
  View.cover_of_tiledL (tileRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1 S1024x1024.size (by sl_kernel_rfl) y

/-- What one run leaves in the output block: its pieces read back. -/
def tileOut (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1024x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S1024x512 .bf16) (harg7 : arg7.IsWhole) (arg8 : Memref sig .tc .vmem S16x512 .bf16) (harg8 : arg8.IsWhole) (arg9 : Memref sig .tc .vmem S16x512 .bf16) (harg9 : arg9.IsWhole) (arg10 : Memref sig .tc .vmem S1024x256 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S3x2816 .f32) (harg16 : arg16.IsWhole) (arg17 : Memref sig .tc .vmem S1x2816 .f32) (harg17 : arg17.IsWhole) (arg18 : Memref sig .tc .vmem S1x1024 .f32) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S1x1024 .f32) (harg22 : arg22.IsWhole) (arg23 : Memref sig .tc .vmem S1024x1024 .f32) (harg23 : arg23.IsWhole) (arg24 : Memref sig .tc .vmem S1056x1024 .bf16) (harg24 : arg24.IsWhole) (arg25 : Memref sig .tc .vmem S1056x1024 .bf16) (harg25 : arg25.IsWhole) (arg26 : Memref sig .tc .vmem S1024x2816 .bf16) (harg26 : arg26.IsWhole)
    (x0 : Vec F S1024x1024 .f32) (x1 : Vec F S16x1024 .f32) (x2 : Vec F S16x1024 .f32) (x3 : Vec F S1024x512 .bf16) (x4 : Vec F S16x512 .bf16) (x5 : Vec F S16x512 .bf16) (x6 : Vec F S1024x512 .bf16) (x7 : Vec F S16x512 .bf16) (x8 : Vec F S16x512 .bf16) (x9 : Vec F S1024x256 .f32) (x10 : Vec F S1024x1024 .bf16) (x11 : Vec F S1x1024 .f32) (x12 : Vec F S1024x2816 .bf16) (x13 : Vec F S1024x2816 .bf16) (x14 : Vec F S2816x1024 .bf16) (x15 : Vec F S3x2816 .f32) (x16 : Vec F S1x2816 .f32) (x17 : Vec F S1x1024 .f32) (x18 : Vec F S1024x1024 .bf16) (x19 : Vec F S1x1024 .f32) (x20 : Vec F S256x1024 .bf16) (x21 : Vec F S1x1024 .f32) : Vec F S1024x1024 .f32 :=
  VO0_22.read (Elt F) (VO0_22.writes (Elt F) VO0_22.junk (tileRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21).1)

/-! ## What the outputs hold after each point -/

/-- What the output's staging buffer holds after grid point `t`. -/
def outAt (c : Dev nD) (t : Fin cfg0.N) : Vec F S1024x1024 .f32 :=
  tileOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

/-! ## The pipeline's proof data -/

/-- What the pipeline proof needs of one core: the arrays as the launch finds them, and after point `t`
    each input buffer still at its block and the output buffer at `outAt`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outAt m c t)
    | ⟨_ + 23, h⟩ => absurd h (Nat.not_lt.2 (Nat.le_add_left _ _))
  Φ _ := Pipeline.ΦA spec0 c
  q w := Pipeline.shareOf spec0 w
  owed _ := 0

/-- The arrays of `data` are the contents at the launch. -/
theorem A_eq (c : Dev nD) (w : Fin cfg0.W) : (data m 0 c).A w = V m c (Pipeline.arrRef spec0 w) := by
  dsimp only [data]

/-- What the body leaves in each window's buffer: an input keeps its block, the output holds `outAt`. -/
theorem after0_0 (c : Dev nD) (t : Fin cfg0.N) : (data m 0 c).after 0 t = iblk m c 0 t := by dsimp only [data]
theorem after0_1 (c : Dev nD) (t : Fin cfg0.N) : (data m 0 c).after 1 t = iblk m c 1 t := by dsimp only [data]
theorem after0_2 (c : Dev nD) (t : Fin cfg0.N) : (data m 0 c).after 2 t = iblk m c 2 t := by dsimp only [data]
theorem after0_3 (c : Dev nD) (t : Fin cfg0.N) : (data m 0 c).after 3 t = iblk m c 3 t := by dsimp only [data]
theorem after0_4 (c : Dev nD) (t : Fin cfg0.N) : (data m 0 c).after 4 t = iblk m c 4 t := by dsimp only [data]
theorem after0_5 (c : Dev nD) (t : Fin cfg0.N) : (data m 0 c).after 5 t = iblk m c 5 t := by dsimp only [data]
theorem after0_6 (c : Dev nD) (t : Fin cfg0.N) : (data m 0 c).after 6 t = iblk m c 6 t := by dsimp only [data]
theorem after0_7 (c : Dev nD) (t : Fin cfg0.N) : (data m 0 c).after 7 t = iblk m c 7 t := by dsimp only [data]
theorem after0_8 (c : Dev nD) (t : Fin cfg0.N) : (data m 0 c).after 8 t = iblk m c 8 t := by dsimp only [data]
theorem after0_9 (c : Dev nD) (t : Fin cfg0.N) : (data m 0 c).after 9 t = iblk m c 9 t := by dsimp only [data]
theorem after0_10 (c : Dev nD) (t : Fin cfg0.N) : (data m 0 c).after 10 t = iblk m c 10 t := by dsimp only [data]
theorem after0_11 (c : Dev nD) (t : Fin cfg0.N) : (data m 0 c).after 11 t = iblk m c 11 t := by dsimp only [data]
theorem after0_12 (c : Dev nD) (t : Fin cfg0.N) : (data m 0 c).after 12 t = iblk m c 12 t := by dsimp only [data]
theorem after0_13 (c : Dev nD) (t : Fin cfg0.N) : (data m 0 c).after 13 t = iblk m c 13 t := by dsimp only [data]
theorem after0_14 (c : Dev nD) (t : Fin cfg0.N) : (data m 0 c).after 14 t = iblk m c 14 t := by dsimp only [data]
theorem after0_15 (c : Dev nD) (t : Fin cfg0.N) : (data m 0 c).after 15 t = iblk m c 15 t := by dsimp only [data]
theorem after0_16 (c : Dev nD) (t : Fin cfg0.N) : (data m 0 c).after 16 t = iblk m c 16 t := by dsimp only [data]
theorem after0_17 (c : Dev nD) (t : Fin cfg0.N) : (data m 0 c).after 17 t = iblk m c 17 t := by dsimp only [data]
theorem after0_18 (c : Dev nD) (t : Fin cfg0.N) : (data m 0 c).after 18 t = iblk m c 18 t := by dsimp only [data]
theorem after0_19 (c : Dev nD) (t : Fin cfg0.N) : (data m 0 c).after 19 t = iblk m c 19 t := by dsimp only [data]
theorem after0_20 (c : Dev nD) (t : Fin cfg0.N) : (data m 0 c).after 20 t = iblk m c 20 t := by dsimp only [data]
theorem after0_21 (c : Dev nD) (t : Fin cfg0.N) : (data m 0 c).after 21 t = iblk m c 21 t := by dsimp only [data]
theorem after0_22 (c : Dev nD) (t : Fin cfg0.N) : (data m 0 c).after 22 t = (outAt m c t) := by dsimp only [data]

/-- At every point each input's buffer holds that point's block. -/
theorem before0_0 (c : Dev nD) (t : Fin cfg0.N) (d) : (data m 0 c).before 0 t d = iblk m c 0 t :=
  before0_0_of m (data m 0 c) (A_eq m c 0) (after0_0 m c) t d
theorem before0_1 (c : Dev nD) (t : Fin cfg0.N) (d) : (data m 0 c).before 1 t d = iblk m c 1 t :=
  before0_1_of m (data m 0 c) (A_eq m c 1) (after0_1 m c) t d
theorem before0_2 (c : Dev nD) (t : Fin cfg0.N) (d) : (data m 0 c).before 2 t d = iblk m c 2 t :=
  before0_2_of m (data m 0 c) (A_eq m c 2) (after0_2 m c) t d
theorem before0_3 (c : Dev nD) (t : Fin cfg0.N) (d) : (data m 0 c).before 3 t d = iblk m c 3 t :=
  before0_3_of m (data m 0 c) (A_eq m c 3) (after0_3 m c) t d
theorem before0_4 (c : Dev nD) (t : Fin cfg0.N) (d) : (data m 0 c).before 4 t d = iblk m c 4 t :=
  before0_4_of m (data m 0 c) (A_eq m c 4) (after0_4 m c) t d
theorem before0_5 (c : Dev nD) (t : Fin cfg0.N) (d) : (data m 0 c).before 5 t d = iblk m c 5 t :=
  before0_5_of m (data m 0 c) (A_eq m c 5) (after0_5 m c) t d
theorem before0_6 (c : Dev nD) (t : Fin cfg0.N) (d) : (data m 0 c).before 6 t d = iblk m c 6 t :=
  before0_6_of m (data m 0 c) (A_eq m c 6) (after0_6 m c) t d
theorem before0_7 (c : Dev nD) (t : Fin cfg0.N) (d) : (data m 0 c).before 7 t d = iblk m c 7 t :=
  before0_7_of m (data m 0 c) (A_eq m c 7) (after0_7 m c) t d
theorem before0_8 (c : Dev nD) (t : Fin cfg0.N) (d) : (data m 0 c).before 8 t d = iblk m c 8 t :=
  before0_8_of m (data m 0 c) (A_eq m c 8) (after0_8 m c) t d
theorem before0_9 (c : Dev nD) (t : Fin cfg0.N) (d) : (data m 0 c).before 9 t d = iblk m c 9 t :=
  before0_9_of m (data m 0 c) (A_eq m c 9) (after0_9 m c) t d
theorem before0_10 (c : Dev nD) (t : Fin cfg0.N) (d) : (data m 0 c).before 10 t d = iblk m c 10 t :=
  before0_10_of m (data m 0 c) (A_eq m c 10) (after0_10 m c) t d
theorem before0_11 (c : Dev nD) (t : Fin cfg0.N) (d) : (data m 0 c).before 11 t d = iblk m c 11 t :=
  before0_11_of m (data m 0 c) (A_eq m c 11) (after0_11 m c) t d
theorem before0_12 (c : Dev nD) (t : Fin cfg0.N) (d) : (data m 0 c).before 12 t d = iblk m c 12 t :=
  before0_12_of m (data m 0 c) (A_eq m c 12) (after0_12 m c) t d
theorem before0_13 (c : Dev nD) (t : Fin cfg0.N) (d) : (data m 0 c).before 13 t d = iblk m c 13 t :=
  before0_13_of m (data m 0 c) (A_eq m c 13) (after0_13 m c) t d
theorem before0_14 (c : Dev nD) (t : Fin cfg0.N) (d) : (data m 0 c).before 14 t d = iblk m c 14 t :=
  before0_14_of m (data m 0 c) (A_eq m c 14) (after0_14 m c) t d
theorem before0_15 (c : Dev nD) (t : Fin cfg0.N) (d) : (data m 0 c).before 15 t d = iblk m c 15 t :=
  before0_15_of m (data m 0 c) (A_eq m c 15) (after0_15 m c) t d
theorem before0_16 (c : Dev nD) (t : Fin cfg0.N) (d) : (data m 0 c).before 16 t d = iblk m c 16 t :=
  before0_16_of m (data m 0 c) (A_eq m c 16) (after0_16 m c) t d
theorem before0_17 (c : Dev nD) (t : Fin cfg0.N) (d) : (data m 0 c).before 17 t d = iblk m c 17 t :=
  before0_17_of m (data m 0 c) (A_eq m c 17) (after0_17 m c) t d
theorem before0_18 (c : Dev nD) (t : Fin cfg0.N) (d) : (data m 0 c).before 18 t d = iblk m c 18 t :=
  before0_18_of m (data m 0 c) (A_eq m c 18) (after0_18 m c) t d
theorem before0_19 (c : Dev nD) (t : Fin cfg0.N) (d) : (data m 0 c).before 19 t d = iblk m c 19 t :=
  before0_19_of m (data m 0 c) (A_eq m c 19) (after0_19 m c) t d
theorem before0_20 (c : Dev nD) (t : Fin cfg0.N) (d) : (data m 0 c).before 20 t d = iblk m c 20 t :=
  before0_20_of m (data m 0 c) (A_eq m c 20) (after0_20 m c) t d
theorem before0_21 (c : Dev nD) (t : Fin cfg0.N) (d) : (data m 0 c).before 21 t d = iblk m c 21 t :=
  before0_21_of m (data m 0 c) (A_eq m c 21) (after0_21 m c) t d

/-! ## The body obligation, at a generic point -/

/-- What the body is given at point `t`: every window's buffer. -/
def bodyPre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d))
    ∗ (∃ d, owns (c : Thread nD τ) (ms0_22 t) fullShare ((data m 0 c).before 22 t d)))

/-- What the body gives back at point `t`. -/
def bodyPost (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t)
    ∗ owns (c : Thread nD τ) (ms0_16 t) fullShare ((data m 0 c).after 16 t)
    ∗ owns (c : Thread nD τ) (ms0_17 t) fullShare ((data m 0 c).after 17 t)
    ∗ owns (c : Thread nD τ) (ms0_18 t) fullShare ((data m 0 c).after 18 t)
    ∗ owns (c : Thread nD τ) (ms0_19 t) fullShare ((data m 0 c).after 19 t)
    ∗ owns (c : Thread nD τ) (ms0_20 t) fullShare ((data m 0 c).after 20 t)
    ∗ owns (c : Thread nD τ) (ms0_21 t) fullShare ((data m 0 c).after 21 t)
    ∗ owns (c : Thread nD τ) (ms0_22 t) fullShare ((data m 0 c).after 22 t))

set_option maxHeartbeats 2400000 in
/-- The body at any point: from the inputs' blocks it reaches its end with the output block at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (data m 0 c).Φ t.succ = (data m 0 c).Φ t.castSucc from rfl,
    show (data m 0 c).owesAt () t.succ = (data m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (data m 0 c).Φ t.castSucc = Pipeline.ΦA spec0 c from rfl, PhiA0_eq]
  unfold outAt
  unfold tileOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((tileRun c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, ⟨%e22, H22⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro; exact View.read_writes_of_cover _ _ _ _ _ (tile_cover c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The table entry the pipeline calls at point `t` is the body at that point. -/
theorem defs₀_row (t : Fin cfg0.N) :
    defs₀ (F := F) .tc cfg0.body (cfg0.bodyArgs t (cfg0.slots t)) = bodyAt0 t := by
  unfold defs₀; rw [Defs.onTc_tc]

/-- The body obligation of the pipeline at every point. -/
theorem body_obligation (c : Dev nD) : BodyObligation (data (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole run: every array ends at what `data` says, and every semaphore counter ends at zero. -/
theorem run_main_quiescent : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run without the counters. -/
theorem run_main : θ_run defs (onTc (τ := τ) (main (F := F))) (s₀ m ρ) (Pipeline.FramePost cfgs (data m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (data m) (A_eq m) (run_main m ρ)

/-- The program terminates with its argument arrays unchanged and all counters at zero, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-! ## Blockwise: what each point writes back, and the final array block by block -/

/-- Point `t` writes back what its run leaves in the output buffer. -/
theorem flushed22 (c : Dev nD) (t : Fin cfg0.N) :
    (data m 0 c).flushed 22 t = (cfg0.win 22).cut (grid0.coords t) (outAt m c t) := by
  show (cfg0.win 22).cut (grid0.coords t) ((data m 0 c).after 22 t) = _
  rw [after0_22]

/-- Distinct grid points write distinct blocks. -/
theorem idx_inj22 : ∀ t t' : Fin cfg0.N, win0_22.index t = win0_22.index t' → t = t' :=
  (by decide +kernel : ∀ t t' : Fin grid0.N, win0_22.index t = win0_22.index t' → t = t')

/-- The blocks of distinct points are disjoint. -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- Block `t` of the final array is what point `t` wrote back. -/
theorem blocks22 (c : Dev nD) (t : Fin cfg0.N) (hf : (cfg0.win 22).flush t = true) :
    ((cfg0.win 22).blk t).view.read (Elt F) ((data m 0 c).arrAt 22 cfg0.N) = (data m 0 c).flushed 22 t :=
  (data m 0 c).read_blk_arrAt_eq_flushed 22 disjoint22 cfg0.N t t.isLt hf

/-- After the run the result array is what `data` says. -/
theorem post22 (r : PUnit × MemSt nD τ sig (Elt F)) (h : Pipeline.FramePost cfgs (data m) 0 (V m) r) (c : Dev nD) :
    r.2.mem ((c : Thread nD τ).loc main_v27) = (data m 0 c).arrAt 22 cfg0.N :=
  (h c).1 22

/-- Argument 0 is as launched after the run. -/
theorem kept_main_arg0 (r : PUnit × MemSt nD τ sig (Elt F)) (h : Pipeline.FramePost cfgs (data m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as launched after the run. -/
theorem kept_main_arg1 (r : PUnit × MemSt nD τ sig (Elt F)) (h : Pipeline.FramePost cfgs (data m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as launched after the run. -/
theorem kept_main_arg2 (r : PUnit × MemSt nD τ sig (Elt F)) (h : Pipeline.FramePost cfgs (data m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as launched after the run. -/
theorem kept_main_arg3 (r : PUnit × MemSt nD τ sig (Elt F)) (h : Pipeline.FramePost cfgs (data m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is as launched after the run. -/
theorem kept_main_arg4 (r : PUnit × MemSt nD τ sig (Elt F)) (h : Pipeline.FramePost cfgs (data m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is as launched after the run. -/
theorem kept_main_arg5 (r : PUnit × MemSt nD τ sig (Elt F)) (h : Pipeline.FramePost cfgs (data m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is as launched after the run. -/
theorem kept_main_arg6 (r : PUnit × MemSt nD τ sig (Elt F)) (h : Pipeline.FramePost cfgs (data m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 is as launched after the run. -/
theorem kept_main_arg7 (r : PUnit × MemSt nD τ sig (Elt F)) (h : Pipeline.FramePost cfgs (data m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 is as launched after the run. -/
theorem kept_main_arg8 (r : PUnit × MemSt nD τ sig (Elt F)) (h : Pipeline.FramePost cfgs (data m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument 9 is as launched after the run. -/
theorem kept_main_arg9 (r : PUnit × MemSt nD τ sig (Elt F)) (h : Pipeline.FramePost cfgs (data m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument 10 is as launched after the run. -/
theorem kept_main_arg10 (r : PUnit × MemSt nD τ sig (Elt F)) (h : Pipeline.FramePost cfgs (data m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- Argument 11 is as launched after the run. -/
theorem kept_main_arg11 (r : PUnit × MemSt nD τ sig (Elt F)) (h : Pipeline.FramePost cfgs (data m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- Argument 12 is as launched after the run. -/
theorem kept_main_arg12 (r : PUnit × MemSt nD τ sig (Elt F)) (h : Pipeline.FramePost cfgs (data m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- Argument 13 is as launched after the run. -/
theorem kept_main_arg13 (r : PUnit × MemSt nD τ sig (Elt F)) (h : Pipeline.FramePost cfgs (data m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- Argument 14 is as launched after the run. -/
theorem kept_main_arg14 (r : PUnit × MemSt nD τ sig (Elt F)) (h : Pipeline.FramePost cfgs (data m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- Argument 15 is as launched after the run. -/
theorem kept_main_arg15 (r : PUnit × MemSt nD τ sig (Elt F)) (h : Pipeline.FramePost cfgs (data m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The whole run with the result array named and the arguments unchanged. -/
theorem run_blocks : θ_run defs (onTc (τ := τ) (main (F := F))) ⟨m, fun _ => 0, ρ⟩ fun r => ∀ c : Dev nD,
      r.2.mem ((c : Thread nD τ).loc main_v27) = (data m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.FfnIdeal.Tile

end
-- ==== Proof.FfnBits.lean ====
/- The program over the machine's floats runs as its idealized copy does: the two printed texts are the same
   functions, so the run proved over any floats is carried from one to the other. -/
module

public import proofs.«01_k».proof.Defs
public import proofs.«01_k».proof.Proof.Gen.Ffn.Launch
public import proofs.«01_k».proof.Proof.FfnFrame

@[expose] public section

set_option maxRecDepth 100000

noncomputable section

namespace Cert.Ffn.Tile

open Idealize.ShloMosaic Idealize.ShloMosaic.TcCoe

variable {F : FTy → Type} [FloatOps F]

set_option maxHeartbeats 4000000 in
/-- The kernel's body is the same function in both printed programs. -/
theorem kernel_eq : Cert.Ffn.cc0_outproj_ffn_ple (F := F) = Cert.FfnIdeal.cc0_outproj_ffn_ple (F := F) := rfl

set_option maxHeartbeats 4000000 in
/-- The host program is the same in both. -/
theorem main_eq : Cert.Ffn.main (F := F) = Cert.FfnIdeal.main (F := F) := rfl

set_option maxHeartbeats 4000000 in
/-- The table of kernel bodies is the same in both. -/
theorem bodies_eq : Cert.Ffn.defs₀ (F := F) = Cert.FfnIdeal.defs₀ (F := F) := by
  unfold Cert.Ffn.defs₀ Cert.FfnIdeal.defs₀
  refine congrArg Defs.onTc (funext fun l => funext fun x => ?_)
  match l, x with
  | ⟨0, _⟩, (t, s) => dsimp only; rw [kernel_eq]; rfl

set_option maxHeartbeats 4000000 in
/-- The table of all procedures is the same in both. -/
theorem procs_eq : Cert.Ffn.defs (F := F) = Cert.FfnIdeal.defs (F := F) := by
  unfold Cert.Ffn.defs Cert.FfnIdeal.defs
  rw [bodies_eq]
  rfl

set_option maxHeartbeats 4000000 in
/-- The program over the machine's floats terminates with its arguments unchanged and every counter at zero. -/
theorem quiet : Cert.quiescent_Ffn := by
  intro m g _
  have h := Cert.FfnIdeal.Tile.frame (F := Bits) m g
  rw [← procs_eq, ← main_eq] at h
  exact h

end Cert.Ffn.Tile

end
-- ==== Proof.FfnSpec.lean ====
/- The closing block of the layer as plain mathematics over the extended reals, one token row at a time:
   out-projection and residual, root-mean-square norm, gated feed-forward with a centred three-tap convolution,
   per-layer embedding gate, final norm. No program is named here. -/
module

public import Idealize.ShloMosaic.PureOps.Ideal
public import Idealize.ShloMosaic.PureOps.Ideal.Laws
public import Idealize.ShloMosaic.Lib.IdealHost

@[expose] public section

noncomputable section

namespace Cert.Spec

open Idealize.ShloMosaic

/-- A row of `n` extended reals. -/
abbrev Row (n : ℕ) := Fin n → EReal

/-- The number added to a mean square before its root is taken. -/
def eps : EReal := Ideal.ofBits .f32 0x358637BD#32
/-- One half. -/
def half : EReal := Ideal.ofBits .f32 0x3F000000#32
/-- The factor inside the error function of the gelu. -/
def invSqrtTwo : EReal := Ideal.ofBits .f32 0x3F3504F3#32
/-- The number one. -/
def one : EReal := Ideal.ofBits .f32 0x3F800000#32
/-- One over the row length, by which a sum of squares becomes a mean. -/
def invLen : EReal := Ideal.ofBits .f32 0x3A800000#32
/-- The row length. -/
def len : EReal := Ideal.ofBits .f32 0x44800000#32

/-- The added number is positive. -/
theorem eps_pos : 0 < eps := by
  simp [eps, Ideal.ofBits, Ideal.ieee, -EReal.coe_mul]

/-- The reciprocal length is exactly 1/1024. -/
theorem invLen_eq : invLen = ((1 / 1024 : ℝ) : EReal) := by
  simp [invLen, Ideal.ofBits, Ideal.ieee, -EReal.coe_mul]; norm_num

/-- The length is exactly 1024. -/
theorem len_eq : len = ((1024 : ℝ) : EReal) := by
  simp [len, Ideal.ofBits, Ideal.ieee, -EReal.coe_mul]; norm_num

/-- The word of one is one. -/
theorem one_eq : one = 1 := Ideal.ofBits_one_f32

/-- Dividing by the row length is multiplying by its reciprocal. -/
theorem div_len (x : EReal) : Ideal.div x len = x * invLen := by
  rw [len_eq, invLen_eq, Ideal.div_coe (by norm_num)]

/-- The reciprocal root of the mean square of a row. -/
def scale (v : Row 1024) : EReal := Ideal.rsqrt ((∑ k, v k * v k) * invLen + eps)

/-- A row divided by its root mean square, times a gain. -/
def norm (v g : Row 1024) : Row 1024 := fun d => v d * scale v * g d

/-- The residual row plus the out-projection of the concatenated mixer outputs. -/
def resid (x mix : Row 1024) (wo : Fin 1024 → Row 1024) : Row 1024 := fun d => x d + ∑ k, mix k * wo k d

/-- One column of a row times a matrix. -/
def dot {n : ℕ} (h : Row n) (w : Row n) : EReal := ∑ k, h k * w k

/-- The three-tap convolution of a gate column over the rows before, at and after, plus its bias. -/
def conv (gp gc gn c0 c1 c2 cb : EReal) : EReal := gp * c0 + gc * c1 + gn * c2 + cb

/-- The gelu of a number, by the error function. -/
def gelu (a : EReal) : EReal := half * a * (one + Ideal.erf (a * invSqrtTwo))

/-- One gated activation from the normed rows before, at and after. -/
def act (hp hc hn wg wu : Row 1024) (c0 c1 c2 cb : EReal) : EReal :=
  gelu (conv (dot hp wg) (dot hc wg) (dot hn wg) c0 c1 c2 cb) * dot hc wu

/-- The row after the feed-forward block. -/
def afterFfn (x1 : Row 1024) (a : Row 2816) (wd : Fin 2816 → Row 1024) : Row 1024 := fun d => x1 d + ∑ j, a j * wd j d

/-- The embedding gate before its bias: the normed row times the gate matrix. -/
def gatePre (x2 g : Row 1024) (wpg : Fin 1024 → Row 1024) : Row 1024 := fun d => ∑ k, norm x2 g k * wpg k d

/-- The row after the embedding has been gated in. -/
def afterPle (x2 gp : Row 1024) (wpg : Fin 1024 → Row 1024) (bpg : Row 1024) (p : Row 256) (wpp : Fin 256 → Row 1024) :
    Row 1024 := fun d => x2 d + (∑ k, p k * wpp k d) * Ideal.logistic (gatePre x2 gp wpg d + bpg d)

/-- A square is not negative. -/
theorem mul_self_nonneg (x : EReal) : 0 ≤ x * x := by
  rcases le_total 0 x with h | h
  · exact EReal.mul_nonneg h h
  · rw [← neg_mul_neg]; exact EReal.mul_nonneg (EReal.neg_nonneg.2 h) (EReal.neg_nonneg.2 h)

/-- The reciprocal length is not negative. -/
theorem invLen_nonneg : 0 ≤ invLen := by
  rw [invLen_eq]; exact_mod_cast (by norm_num : (0:ℝ) ≤ 1 / 1024)

/-- A reciprocal root of a mean square is a nonnegative real number. -/
theorem scale_real (v : Row 1024) : 0 ≤ scale v ∧ scale v ≠ ⊤ := by
  have h : 0 < (∑ k, v k * v k) * invLen + eps :=
    lt_of_lt_of_le eps_pos (le_add_of_nonneg_left
      (EReal.mul_nonneg (Finset.sum_nonneg fun k _ => mul_self_nonneg _) invLen_nonneg))
  unfold scale
  generalize (∑ k, v k * v k) * invLen + eps = y at h
  induction y with
  | bot => exact absurd h (by simp)
  | top => simp
  | coe r =>
    have hr : 0 < r := by exact_mod_cast h
    rw [Ideal.rsqrt_coe, if_neg (not_lt.2 hr.le), if_neg hr.ne']
    exact ⟨by exact_mod_cast inv_nonneg.2 (Real.sqrt_nonneg r), EReal.coe_ne_top _⟩

/-- A nonnegative real factor moves into a finite sum. -/
theorem sum_mul_real {ι : Type} (s : Finset ι) (f : ι → EReal) (c : EReal) (h0 : 0 ≤ c) (ht : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

/-- The scale taken out of the gate's matrix product gives the same number as the scale applied to the row. -/
theorem gatePre_eq (x2 g : Row 1024) (wpg : Fin 1024 → Row 1024) (d : Fin 1024) :
    (∑ k, x2 k * g k * wpg k d) * scale x2 = gatePre x2 g wpg d := by
  rw [sum_mul_real _ _ _ (scale_real x2).1 (scale_real x2).2]
  refine Finset.sum_congr rfl fun k _ => ?_
  unfold norm
  rw [mul_right_comm, mul_right_comm (x2 k) (g k)]

/-- The complementary error function of a negated argument gives the same gelu. -/
theorem gelu_erfc (a : EReal) : half * a * Ideal.erfc (-a * invSqrtTwo) = gelu a := by
  unfold gelu
  rw [EReal.neg_mul, Ideal.erfc_neg, one_eq]

/-- A row of zeros has product zero with every column. -/
theorem dot_zero {n : ℕ} (w : Row n) : dot (fun _ => 0) w = 0 := by
  simp [dot]

end Cert.Spec

end
-- ==== Proof.FfnLayer.lean ====
/- The closing block over whole arrays: the sixteen argument arrays in one record, their rows, and the result row of
   every token. The program and its reference are both proved to compute `Arrays.out`. -/
module

public import proofs.«01_k».proof.Proof.FfnSpec
public import Idealize.ShloMosaic.Lib.ValueIdx

@[expose] public section

noncomputable section

namespace Cert.Spec

open Idealize.ShloMosaic Idealize.ShloMosaic.ValueIdx

/-- The argument arrays, as extended reals. -/
structure Arrays where
  x : (⟨3, ![16, 2048, 1024]⟩ : Shape).Idx → EReal
  attn : (⟨3, ![16, 2048, 512]⟩ : Shape).Idx → EReal
  mem : (⟨3, ![16, 2048, 512]⟩ : Shape).Idx → EReal
  p : (⟨4, ![1, 16, 2048, 256]⟩ : Shape).Idx → EReal
  wo : (⟨3, ![1, 1024, 1024]⟩ : Shape).Idx → EReal
  g2 : (⟨2, ![1, 1024]⟩ : Shape).Idx → EReal
  wg : (⟨3, ![1, 1024, 2816]⟩ : Shape).Idx → EReal
  cw : (⟨3, ![1, 3, 2816]⟩ : Shape).Idx → EReal
  cb : (⟨2, ![1, 2816]⟩ : Shape).Idx → EReal
  wu : (⟨3, ![1, 1024, 2816]⟩ : Shape).Idx → EReal
  wd : (⟨3, ![1, 2816, 1024]⟩ : Shape).Idx → EReal
  gp : (⟨2, ![1, 1024]⟩ : Shape).Idx → EReal
  wpg : (⟨3, ![1, 1024, 1024]⟩ : Shape).Idx → EReal
  bpg : (⟨2, ![1, 1024]⟩ : Shape).Idx → EReal
  wpp : (⟨3, ![1, 256, 1024]⟩ : Shape).Idx → EReal
  gf : (⟨1, ![1024]⟩ : Shape).Idx → EReal

variable (A : Arrays)

/-- The two mixers' outputs of one token side by side. -/
def Arrays.mix (b : Fin 16) (s : Fin 2048) : Row 1024 := fun k =>
  if h : k.val < 512 then A.attn (ix3 b s ⟨k.val, h⟩) else A.mem (ix3 b s ⟨k.val - 512, by omega⟩)

/-- The residual row of one token after the out-projection. -/
def Arrays.res (b : Fin 16) (s : Fin 2048) : Row 1024 :=
  resid (fun d => A.x (ix3 b s d)) (A.mix b s) fun k d => A.wo (ix3 0 k d)

/-- The normed row of one token. -/
def Arrays.normed (b : Fin 16) (s : Fin 2048) : Row 1024 := norm (A.res b s) fun d => A.g2 (ix2 0 d)

/-- The normed rows of a sequence with a row of zeros before the first and after the last. -/
def Arrays.padded (b : Fin 16) (n : ℕ) : Row 1024 :=
  if h : 1 ≤ n ∧ n ≤ 2048 then A.normed b ⟨n - 1, by omega⟩ else fun _ => 0

/-- The gated activations of one token. -/
def Arrays.acts (b : Fin 16) (s : Fin 2048) : Row 2816 := fun j =>
  act (A.padded b s.val) (A.padded b (s.val + 1)) (A.padded b (s.val + 2)) (fun k => A.wg (ix3 0 k j))
    (fun k => A.wu (ix3 0 k j)) (A.cw (ix3 0 0 j)) (A.cw (ix3 0 1 j)) (A.cw (ix3 0 2 j)) (A.cb (ix2 0 j))

/-- The row of one token after the feed-forward block. -/
def Arrays.ffn (b : Fin 16) (s : Fin 2048) : Row 1024 :=
  afterFfn (A.res b s) (A.acts b s) fun j d => A.wd (ix3 0 j d)

/-- The row of one token with its embedding gated in. -/
def Arrays.ple (b : Fin 16) (s : Fin 2048) : Row 1024 :=
  afterPle (A.ffn b s) (fun d => A.gp (ix2 0 d)) (fun k d => A.wpg (ix3 0 k d)) (fun d => A.bpg (ix2 0 d))
    (fun k => A.p (ix4 0 b s k)) fun k d => A.wpp (ix3 0 k d)

/-- The result row of one token. -/
def Arrays.out (b : Fin 16) (s : Fin 2048) : Row 1024 := norm (A.ple b s) fun d => A.gf (ix1 d)

/-- The row of the padded sequence one past a token's own position is the token's normed row. -/
theorem Arrays.padded_self (b : Fin 16) (s : Fin 2048) : A.padded b (s.val + 1) = A.normed b s := by
  unfold Arrays.padded
  rw [dif_pos ⟨by omega, by have := s.isLt; omega⟩]
  rfl

/-- An index of rank two is known by its two coordinates. -/
theorem ix2_of {n0 n1 : ℕ} (j : (⟨2, ![n0, n1]⟩ : Shape).Idx) (a : Fin n0) (b : Fin n1)
    (h0 : (j 0).val = a.val) (h1 : (j 1).val = b.val) : j = ix2 a b := by
  rw [eq_ix2 j, Fin.ext h0, Fin.ext h1]; rfl

/-- An index of rank three is known by its three coordinates. -/
theorem ix3_of {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  rw [eq_ix3 j, Fin.ext h0, Fin.ext h1, Fin.ext h2]; rfl

/-- An index of rank four is known by its four coordinates. -/
theorem ix4_of {n0 n1 n2 n3 : ℕ} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d := by
  rw [eq_ix4 j, Fin.ext h0, Fin.ext h1, Fin.ext h2, Fin.ext h3]; rfl

/-- The high part of a row-major position. -/
theorem split_hi {n m a b : ℕ} (ha : a < m) (hb : b < n) : (a * n + b) / n % m = a := by
  rw [Nat.add_comm, Nat.add_mul_div_right _ _ (by omega), Nat.div_eq_of_lt hb, Nat.zero_add, Nat.mod_eq_of_lt ha]

/-- The low part of a row-major position. -/
theorem split_lo {n a b : ℕ} (hb : b < n) : (a * n + b) % n = b := by
  rw [Nat.add_comm, Nat.add_mul_mod_self_right, Nat.mod_eq_of_lt hb]

end Cert.Spec

end
-- ==== Proof.FfnOps.lean ====
/- The vector operations of the kernels read at a row and a column, over the extended reals. -/
module

public import proofs.«01_k».proof.Proof.FfnLayer
public import Idealize.ShloMosaic.Lib.MatmulPlain
public import Idealize.ShloMosaic.Lib.KernelVsHost
public import Idealize.ShloMosaic.Lib.IdealHost

@[expose] public section

noncomputable section

namespace Cert.Ops

open Cert.Spec
open Idealize.ShloMosaic Idealize.ShloMosaic.ValueIdx

variable {m n k : ℕ} {φ ψ : FTy}

/-- A matrix product onto zeros, at a row and a column. -/
theorem mm_at (d : DotDims ⟨2, ![m, k]⟩ ⟨2, ![k, n]⟩ ⟨2, ![m, n]⟩) (hd : d = DotDims.plain m k n)
    (prec : Option ContractPrecision) (a : FVec Ideal ⟨2, ![m, k]⟩ φ) (b : FVec Ideal ⟨2, ![k, n]⟩ ψ)
    (r : Fin m) (c : Fin n) :
    matmul d prec a b (constant (F := Ideal) ⟨2, ![m, n]⟩ .f32 0x00000000#32) (ix2 r c)
      = ∑ i, a (ix2 r i) * b (ix2 i c) := by
  subst hd
  refine (Ideal.matmul_plain_apply prec a b _ r c).trans ?_
  rw [constant_apply, Ideal.ofBits_zero_f32, zero_add]

/-- The sums of the rows of a matrix, kept as a column. -/
theorem sumCol_at (x : FVec Ideal ⟨2, ![m, n]⟩ .f32) (h : (⟨2, ![m, n]⟩ : Shape).Reduces [1] ⟨1, ![m]⟩)
    (hφ : FKind.Formats .f32) (ha : (0x00000000#32 : BitVec 32) = FKind.add.neutral .f32 hφ)
    (hc : (⟨1, ![m]⟩ : Shape).ShapeCasts ⟨2, ![m, 1]⟩) (r : Fin m) (z : Fin 1) :
    shapeCast ⟨2, ![m, 1]⟩ (multiReduction .add [1] ⟨1, ![m]⟩ x 0x00000000#32 h hφ ha) hc (ix2 r z)
      = ∑ i, x (ix2 r i) := by
  rw [shapeCast_apply _ hc (ix2 r z) (ix1 r) (by
    rw [Shape.rowMajor_val_two, Shape.rowMajor_val_one]
    show r.val = r.val * 1 + z.val
    omega), Ideal.multiReduction_add_single]
  refine Finset.sum_congr rfl fun i _ => congrArg x ?_
  exact ix2_of _ r i rfl rfl

/-- A column repeated along every row. -/
theorem bcol_at (x : (⟨2, ![m, 1]⟩ : Shape).Idx → EReal) (h : (⟨2, ![m, 1]⟩ : Shape).Broadcasts ⟨2, ![m, n]⟩)
    (hm : m ≠ 1) (r : Fin m) (c : Fin n) : broadcastTo ⟨2, ![m, n]⟩ x h (ix2 r c) = x (ix2 r 0) :=
  broadcastTo_apply x h _ _ fun a => by
    match a with
    | ⟨0, _⟩ => exact (if_neg hm).symm
    | ⟨1, _⟩ => rfl

/-- A row repeated along every column. -/
theorem brow_at (x : (⟨2, ![1, n]⟩ : Shape).Idx → EReal) (h : (⟨2, ![1, n]⟩ : Shape).Broadcasts ⟨2, ![m, n]⟩)
    (hn : n ≠ 1) (r : Fin m) (c : Fin n) : broadcastTo ⟨2, ![m, n]⟩ x h (ix2 r c) = x (ix2 0 c) :=
  broadcastTo_apply x h _ _ fun a => by
    match a with
    | ⟨0, _⟩ => rfl
    | ⟨1, _⟩ => exact (if_neg hn).symm

/-- A slice at a row and a column is the matrix at the shifted row and column. -/
theorem slice_at {m' n' : ℕ} (o p : ℕ) (x : (⟨2, ![m', n']⟩ : Shape).Idx → EReal)
    (h : (⟨2, ![m', n']⟩ : Shape).Slices ![o, p] ⟨2, ![m, n]⟩) (r : Fin m) (c : Fin n) (r' : Fin m') (c' : Fin n')
    (hr : r'.val = o + r.val) (hc : c'.val = p + c.val) :
    extractStridedSlice ⟨2, ![m, n]⟩ ![o, p] x h (ix2 r c) = x (ix2 r' c') :=
  extractStridedSlice_apply _ _ _ _ _ fun a => by
    match a with
    | ⟨0, _⟩ => exact hr
    | ⟨1, _⟩ => exact hc

/-- A rotation of the rows at a row and a column. -/
theorem rot_at (sb : BitVec 32) (x : (⟨2, ![m, n]⟩ : Shape).Idx → EReal) (h : (⟨2, ![m, n]⟩ : Shape).Rotates 0 none)
    (r r' : Fin m) (c : Fin n) (hr : r'.val = (r.val + m - sb.toNat % m) % m) :
    dynamicRotate 0 sb none x h (ix2 r c) = x (ix2 r' c) :=
  dynamicRotate_apply 0 sb x h _ _ fun b => by
    match b with
    | ⟨0, _⟩ => exact hr.trans (if_pos rfl).symm
    | ⟨1, _⟩ => rfl

/-- A matrix divided by the root mean squares of its rows, times a gain: the printed chain of operations at a row
    and a column. -/
theorem norm_at (x : FVec Ideal ⟨2, ![m, 1024]⟩ .f32) (g : FVec Ideal ⟨2, ![1, 1024]⟩ .f32) (hm : m ≠ 1)
    (h : (⟨2, ![m, 1024]⟩ : Shape).Reduces [1] ⟨1, ![m]⟩) (hφ : FKind.Formats .f32)
    (ha : (0x00000000#32 : BitVec 32) = FKind.add.neutral .f32 hφ)
    (hc : (⟨1, ![m]⟩ : Shape).ShapeCasts ⟨2, ![m, 1]⟩) (h1 : (⟨2, ![m, 1]⟩ : Shape).Broadcasts ⟨2, ![m, 1024]⟩)
    (h2 : (⟨2, ![1, 1024]⟩ : Shape).Broadcasts ⟨2, ![m, 1024]⟩) (r : Fin m) (d : Fin 1024) :
    mulf (mulf x (broadcastTo ⟨2, ![m, 1024]⟩ (rsqrt (addf (mulf (shapeCast ⟨2, ![m, 1]⟩
      (multiReduction .add [1] ⟨1, ![m]⟩ (mulf x x) 0x00000000#32 h hφ ha) hc)
      (broadcast ⟨2, ![m, 1]⟩ (Scalar.ofBits (F := Ideal) .f32 0x3A800000#32)))
      (broadcast ⟨2, ![m, 1]⟩ (Scalar.ofBits (F := Ideal) .f32 0x358637BD#32)))) h1))
      (broadcastTo ⟨2, ![m, 1024]⟩ g h2) (ix2 r d)
      = norm (fun d => x (ix2 r d)) (fun d => g (ix2 0 d)) d := by
  rw [mulf_apply, mulf_apply, bcol_at _ h1 hm, brow_at _ h2 (by decide)]
  show x (ix2 r d) * Ideal.rsqrt (shapeCast ⟨2, ![m, 1]⟩ _ hc (ix2 r 0) * invLen + eps) * g (ix2 0 d) = _
  rw [sumCol_at]
  rfl

end Cert.Ops

end
-- ==== Proof.FfnTile.lean ====
/- One tile of the fused kernel as mathematics over its blocks, and the values the body computes read at a row and a
   column. Row `q` of the widened tile is the halo before for `q < 16`, the tile for `16 ≤ q < 1040`, the halo after
   from there. -/
module

public import proofs.«01_k».proof.Proof.FfnOps
public import proofs.«01_k».proof.Proof.Gen.FfnIdeal.Skeleton

@[expose] public section

noncomputable section

namespace Cert.FfnIdeal.Tile

open Cert.FfnIdeal Cert.FfnIdeal.Gen Cert.Spec Cert.Ops
open Idealize.ShloMosaic Idealize.ShloMosaic.ValueIdx

/-- The blocks one run of the body reads. -/
structure Blocks where
  x : Vec Ideal S1024x1024 .f32
  xPrev : Vec Ideal S16x1024 .f32
  xNext : Vec Ideal S16x1024 .f32
  attn : Vec Ideal S1024x512 .bf16
  attnPrev : Vec Ideal S16x512 .bf16
  attnNext : Vec Ideal S16x512 .bf16
  mem : Vec Ideal S1024x512 .bf16
  memPrev : Vec Ideal S16x512 .bf16
  memNext : Vec Ideal S16x512 .bf16
  p : Vec Ideal S1024x256 .f32
  wo : Vec Ideal S1024x1024 .bf16
  g2 : Vec Ideal S1x1024 .f32
  wg : Vec Ideal S1024x2816 .bf16
  wu : Vec Ideal S1024x2816 .bf16
  wd : Vec Ideal S2816x1024 .bf16
  cw : Vec Ideal S3x2816 .f32
  cb : Vec Ideal S1x2816 .f32
  gp : Vec Ideal S1x1024 .f32
  wpg : Vec Ideal S1024x1024 .bf16
  bpg : Vec Ideal S1x1024 .f32
  wpp : Vec Ideal S256x1024 .bf16
  gf : Vec Ideal S1x1024 .f32

/-- A row of the widened tile from the halo before, the tile and the halo after. -/
def widen {α : Type} (prev : Fin 16 → α) (own : Fin 1024 → α) (next : Fin 16 → α) (q : Fin 1056) : α :=
  if h : q.val < 16 then prev ⟨q.val, h⟩
  else if h' : q.val < 1040 then own ⟨q.val - 16, by omega⟩ else next ⟨q.val - 1040, by omega⟩

/-- The rows before the tile are the first sixteen of the widened tile. -/
theorem widen_prev {α : Type} (prev : Fin 16 → α) (own : Fin 1024 → α) (next : Fin 16 → α) (r : Fin 16) (q : Fin 1056)
    (h : q.val = r.val) : widen prev own next q = prev r := by
  unfold widen
  rw [dif_pos (by omega)]
  exact congrArg prev (Fin.ext h)

/-- The tile's own rows are the next 1024 of the widened tile. -/
theorem widen_own {α : Type} (prev : Fin 16 → α) (own : Fin 1024 → α) (next : Fin 16 → α) (r : Fin 1024) (q : Fin 1056)
    (h : q.val = 16 + r.val) : widen prev own next q = own r := by
  unfold widen
  rw [dif_neg (by omega), dif_pos (by omega)]
  exact congrArg own (Fin.ext (by show q.val - 16 = r.val; omega))

/-- The rows after the tile are the last sixteen of the widened tile. -/
theorem widen_next {α : Type} (prev : Fin 16 → α) (own : Fin 1024 → α) (next : Fin 16 → α) (r : Fin 16) (q : Fin 1056)
    (h : q.val = 1040 + r.val) : widen prev own next q = next r := by
  unfold widen
  rw [dif_neg (by omega), dif_neg (by omega)]
  exact congrArg next (Fin.ext (by show q.val - 1040 = r.val; omega))

/-- Every row of the widened tile is a row of one of its three parts. -/
theorem widen_cases {motive : Fin 1056 → Prop} (hp : ∀ (r : Fin 16) (q : Fin 1056), q.val = r.val → motive q)
    (ho : ∀ (r : Fin 1024) (q : Fin 1056), q.val = 16 + r.val → motive q)
    (hn : ∀ (r : Fin 16) (q : Fin 1056), q.val = 1040 + r.val → motive q) (q : Fin 1056) : motive q := by
  have := q.isLt
  by_cases h : q.val < 16
  · exact hp ⟨q.val, h⟩ q rfl
  · by_cases h' : q.val < 1040
    · exact ho ⟨q.val - 16, by omega⟩ q (by show q.val = 16 + (q.val - 16); omega)
    · exact hn ⟨q.val - 1040, by omega⟩ q (by show q.val = 1040 + (q.val - 1040); omega)

variable (B : Blocks)

/-- The two mixers' outputs side by side, a row of the widened tile. -/
def Blocks.mix (q : Fin 1056) : Row 1024 := fun k =>
  if h : k.val < 512 then
    widen (fun r => B.attnPrev (ix2 r ⟨k.val, h⟩)) (fun r => B.attn (ix2 r ⟨k.val, h⟩))
      (fun r => B.attnNext (ix2 r ⟨k.val, h⟩)) q
  else
    widen (fun r => B.memPrev (ix2 r ⟨k.val - 512, by omega⟩)) (fun r => B.mem (ix2 r ⟨k.val - 512, by omega⟩))
      (fun r => B.memNext (ix2 r ⟨k.val - 512, by omega⟩)) q

/-- The residual input, a row of the widened tile. -/
def Blocks.row (q : Fin 1056) : Row 1024 :=
  widen (fun r d => B.xPrev (ix2 r d)) (fun r d => B.x (ix2 r d)) (fun r d => B.xNext (ix2 r d)) q

/-- The residual row after the out-projection. -/
def Blocks.res (q : Fin 1056) : Row 1024 := resid (B.row q) (B.mix q) fun k d => B.wo (ix2 k d)

/-- Its norm. -/
def Blocks.nrm (q : Fin 1056) : Row 1024 := norm (B.res q) fun d => B.g2 (ix2 0 d)

/-- The normed row, zeroed in the halo before when `first` holds and in the halo after when `last` holds. -/
def Blocks.padded (first last : BitVec 1) (q : Fin 1056) : Row 1024 :=
  widen (fun _ => if first = 1 then fun _ => 0 else B.nrm q) (fun _ => B.nrm q)
    (fun _ => if last = 1 then fun _ => 0 else B.nrm q) q

/-- The gated activations of a row of the tile. -/
def Blocks.acts (first last : BitVec 1) (r : Fin 1024) : Row 2816 := fun j =>
  act (B.padded first last ⟨r.val + 15, by omega⟩) (B.padded first last ⟨r.val + 16, by omega⟩)
    (B.padded first last ⟨r.val + 17, by omega⟩) (fun k => B.wg (ix2 k j)) (fun k => B.wu (ix2 k j))
    (B.cw (ix2 0 j)) (B.cw (ix2 1 j)) (B.cw (ix2 2 j)) (B.cb (ix2 0 j))

/-- The row after the feed-forward block. -/
def Blocks.ffn (first last : BitVec 1) (r : Fin 1024) : Row 1024 :=
  afterFfn (B.res ⟨r.val + 16, by omega⟩) (B.acts first last r) fun j d => B.wd (ix2 j d)

/-- The row with its embedding gated in. -/
def Blocks.ple (first last : BitVec 1) (r : Fin 1024) : Row 1024 :=
  afterPle (B.ffn first last r) (fun d => B.gp (ix2 0 d)) (fun k d => B.wpg (ix2 k d)) (fun d => B.bpg (ix2 0 d))
    (fun k => B.p (ix2 r k)) fun k d => B.wpp (ix2 k d)

/-- The result row. -/
def Blocks.out (first last : BitVec 1) (r : Fin 1024) : Row 1024 :=
  norm (B.ple first last r) fun d => B.gf (ix2 0 d)

/-- The widened mixer rows as one array. -/
def Blocks.mixArr : Vec Ideal S1056x1024 .bf16 := fun y => B.mix (y 0) (y 1)
/-- The widened, padded normed rows as one array. -/
def Blocks.hcatArr (first last : BitVec 1) : Vec Ideal S1056x1024 .bf16 := fun y => B.padded first last (y 0) (y 1)
/-- The normed rows of the tile's own tokens as one array. -/
def Blocks.midArr : Vec Ideal S1024x1024 .bf16 := fun y =>
  B.nrm ⟨(y 0).val + 16, by have : (y 0).val < 1024 := (y 0).isLt; omega⟩ (y 1)
/-- The residual rows of the tile's own tokens as one array. -/
def Blocks.resArr : Vec Ideal S1024x1024 .f32 := fun y =>
  B.res ⟨(y 0).val + 16, by have : (y 0).val < 1024 := (y 0).isLt; omega⟩ (y 1)
/-- The gated activations as one array. -/
def Blocks.actArr (first last : BitVec 1) : Vec Ideal S1024x2816 .bf16 := fun y => B.acts first last (y 0) (y 1)
/-- The result rows as one array. -/
def Blocks.outArr (first last : BitVec 1) : Vec Ideal S1024x1024 .f32 := fun y => B.out first last (y 0) (y 1)

/-- The out-projection of the widened mixer rows. -/
theorem proj_at (q : Fin 1056) (d : Fin 1024) :
    k0_pay8 (F := Ideal) B.mixArr B.wo (ix2 q d) = ∑ k, B.mix q k * B.wo (ix2 k d) := by
  unfold k0_pay8
  rw [shapeCast_self]
  exact mm_at (φ := .bf16) (ψ := .bf16) _ rfl none B.mixArr B.wo q d

/-- The residual rows of the tile's own tokens. -/
theorem res_at (r : Fin 1024) (d : Fin 1024) :
    k0_pay9 (F := Ideal) B.mixArr B.wo B.x (ix2 r d) = B.res ⟨r.val + 16, by omega⟩ d := by
  unfold k0_pay9
  rw [shapeCast_self, addf_apply, slice_at 16 0 _ _ r d ⟨r.val + 16, by omega⟩ d (Nat.add_comm _ _) (Nat.zero_add _).symm,
    proj_at]
  unfold Blocks.res resid Blocks.row
  rw [widen_own _ _ _ r _ (Nat.add_comm _ _)]

/-- The stored residual tile is the array of the residual rows. -/
theorem res_arr : k0_pay9 (F := Ideal) B.mixArr B.wo B.x = B.resArr := by
  funext y
  rw [eq_ix2 y]
  exact res_at B (y 0) (y 1)

/-- The residual rows of the halo after. -/
theorem resNext_at (r : Fin 16) (d : Fin 1024) :
    k0_pay13 (F := Ideal) (k0_pay8 B.mixArr B.wo) B.xNext (ix2 r d) = B.res ⟨r.val + 1040, by omega⟩ d := by
  unfold k0_pay13
  rw [shapeCast_self, addf_apply,
    slice_at 1040 0 _ _ r d ⟨r.val + 1040, by omega⟩ d (Nat.add_comm _ _) (Nat.zero_add _).symm, proj_at]
  unfold Blocks.res resid Blocks.row
  rw [widen_next _ _ _ r _ (Nat.add_comm _ _)]

/-- The normed rows of the tile's own tokens. -/
theorem own_at (r : Fin 1024) (d : Fin 1024) :
    k0_pay11 (F := Ideal) (k0_pay9 B.mixArr B.wo B.x) (k0_pay10 B.g2) (ix2 r d) = B.nrm ⟨r.val + 16, by omega⟩ d := by
  unfold k0_pay11 k0_pay10
  dsimp only
  rw [shapeCast_self, shapeCast_self]
  refine (norm_at _ _ (by decide) _ _ _ _ _ _ r d).trans ?_
  unfold Blocks.nrm
  exact congrArg (fun v => norm v (fun d => B.g2 (ix2 0 d)) d) (funext fun d => res_at B r d)

/-- The normed rows of the halo before, zeroed when `first` holds. -/
theorem prev_at (first last : BitVec 1) (r : Fin 16) (d : Fin 1024) :
    k0_pay15 (F := Ideal) first (k0_pay12 (k0_pay8 B.mixArr B.wo) (k0_pay10 B.g2) B.xPrev) (ix2 r d)
      = B.padded first last ⟨r.val, by omega⟩ d := by
  unfold k0_pay15 Blocks.padded
  rw [shapeCast_self, widen_prev _ _ _ r _ rfl]
  by_cases h : first = 1
  · rw [if_pos h]
    show (if first = 1 then _ else _ : FVec Ideal S16x1024 .bf16) (ix2 r d) = _
    rw [if_pos h]
    exact Ideal.ofBits_zero_bf16
  · rw [if_neg h]
    show (if first = 1 then _ else _ : FVec Ideal S16x1024 .bf16) (ix2 r d) = _
    rw [if_neg h]
    unfold k0_pay12 k0_pay10
    dsimp only
    rw [shapeCast_self, shapeCast_self]
    refine (norm_at _ _ (by decide) _ _ _ _ _ _ r d).trans ?_
    unfold Blocks.nrm
    refine congrArg (fun v => norm v (fun d => B.g2 (ix2 0 d)) d) (funext fun d => ?_)
    rw [addf_apply]
    unfold Blocks.res resid Blocks.row
    rw [widen_prev _ _ _ r _ rfl]
    exact congrArg (B.xPrev (ix2 r d) + ·) ((slice_at 0 0 _ slices_S1056x1024_o0_0_S16x1024 r d ⟨r.val, by omega⟩ d
      (Nat.zero_add _).symm (Nat.zero_add _).symm).trans (proj_at B _ d))

/-- The normed rows of the halo after, zeroed when `last` holds. -/
theorem next_at (first last : BitVec 1) (r : Fin 16) (d : Fin 1024) :
    k0_pay16 (F := Ideal) last (k0_pay10 B.g2) (k0_pay13 (k0_pay8 B.mixArr B.wo) B.xNext)
        (k0_pay14 (k0_pay8 B.mixArr B.wo) B.xNext) (ix2 r d)
      = B.padded first last ⟨r.val + 1040, by omega⟩ d := by
  unfold k0_pay16 Blocks.padded
  rw [shapeCast_self, widen_next _ _ _ r _ (Nat.add_comm _ _)]
  by_cases h : last = 1
  · rw [if_pos h]
    show (if last = 1 then _ else _ : FVec Ideal S16x1024 .bf16) (ix2 r d) = _
    rw [if_pos h]
    exact Ideal.ofBits_zero_bf16
  · rw [if_neg h]
    show (if last = 1 then _ else _ : FVec Ideal S16x1024 .bf16) (ix2 r d) = _
    rw [if_neg h]
    unfold k0_pay14 k0_pay10
    dsimp only
    rw [shapeCast_self]
    refine (norm_at _ _ (by decide) _ _ _ _ _ _ r d).trans ?_
    unfold Blocks.nrm
    exact congrArg (fun v => norm v (fun d => B.g2 (ix2 0 d)) d) (funext fun d => resNext_at B r d)

/-- One chunk of 256 gated activations, from the padded normed rows and the columns `o … o + 255` of the weights. -/
theorem chunk_at (H : Vec Ideal S1056x1024 .bf16) (wg wu : Vec Ideal S1024x256 .bf16) (M : Vec Ideal S1024x1024 .bf16)
    (cw : Vec Ideal S3x256 .f32) (cb : Vec Ideal S1x256 .f32) (r : Fin 1024) (j : Fin 256)
    (hM : ∀ k, M (ix2 r k) = H (ix2 ⟨r.val + 16, by omega⟩ k)) :
    k0_pay44 (F := Ideal) H wg M wu cw cb (ix2 r j)
      = act (fun k => H (ix2 ⟨r.val + 15, by omega⟩ k)) (fun k => H (ix2 ⟨r.val + 16, by omega⟩ k))
          (fun k => H (ix2 ⟨r.val + 17, by omega⟩ k)) (fun k => wg (ix2 k j)) (fun k => wu (ix2 k j))
          (cw (ix2 0 j)) (cw (ix2 1 j)) (cw (ix2 2 j)) (cb (ix2 0 j)) := by
  have hr := r.isLt
  unfold k0_pay44
  dsimp only
  simp only [shapeCast_self]
  show half * _ * (one + Ideal.erf (_ * invSqrtTwo)) * _ = _
  simp only [addf_apply, mulf_apply]
  rw [slice_at 16 0 _ _ r j ⟨r.val + 16, by omega⟩ j (Nat.add_comm _ _) (Nat.zero_add _).symm,
    slice_at 16 0 _ _ r j ⟨r.val + 16, by omega⟩ j (Nat.add_comm _ _) (Nat.zero_add _).symm,
    slice_at 16 0 _ _ r j ⟨r.val + 16, by omega⟩ j (Nat.add_comm _ _) (Nat.zero_add _).symm,
    rot_at 1#32 _ _ ⟨r.val + 16, by omega⟩ ⟨r.val + 15, by omega⟩ j
      (by show r.val + 15 = (r.val + 16 + 1056 - 1 % 1056) % 1056; omega),
    rot_at 1055#32 _ _ ⟨r.val + 16, by omega⟩ ⟨r.val + 17, by omega⟩ j
      (by show r.val + 17 = (r.val + 16 + 1056 - 1055 % 1056) % 1056; omega),
    brow_at _ _ (by decide) r j, brow_at _ _ (by decide) r j, brow_at _ _ (by decide) r j, brow_at _ _ (by decide) r j,
    slice_at 0 0 cw _ 0 j 0 j rfl (Nat.zero_add _).symm, slice_at 1 0 cw _ 0 j 1 j rfl (Nat.zero_add _).symm,
    slice_at 2 0 cw _ 0 j 2 j rfl (Nat.zero_add _).symm]
  have hg := fun q => mm_at (φ := .bf16) (ψ := .bf16) dot_S1056x1024_S1024x256_S1056x256_1_0_0_1_n_n rfl none H wg q j
  have hu := mm_at (φ := .bf16) (ψ := .bf16) dot_S1024x1024_S1024x256_S1024x256_1_0_0_1_n_n rfl none M wu r j
  simp only [hM] at hu
  rw [hg, hg, hg, hu]
  rfl

/-- The rows after the feed-forward block. -/
theorem ffn_at (first last : BitVec 1) (r : Fin 1024) (d : Fin 1024) :
    k0_pay60 (F := Ideal) B.resArr (B.actArr first last) B.wd (ix2 r d) = B.ffn first last r d := by
  unfold k0_pay60
  rw [shapeCast_self, shapeCast_self, addf_apply]
  exact congrArg (B.res ⟨r.val + 16, _⟩ d + ·) (mm_at (φ := .bf16) (ψ := .bf16) _ rfl none (B.actArr first last) B.wd r d)

/-- The product the embedding gate is taken of. -/
theorem gatePre_at (first last : BitVec 1) (r : Fin 1024) (d : Fin 1024) :
    k0_pay61 (F := Ideal) B.resArr (B.actArr first last) B.wd B.gp B.wpg (ix2 r d)
      = gatePre (B.ffn first last r) (fun d => B.gp (ix2 0 d)) (fun k d => B.wpg (ix2 k d)) d := by
  unfold k0_pay61
  dsimp only
  rw [shapeCast_self, shapeCast_self, mulf_apply, bcol_at _ _ (by decide), ← gatePre_eq]
  have hx : ∀ k, k0_pay60 (F := Ideal) B.resArr (B.actArr first last) B.wd (ix2 r k) = B.ffn first last r k :=
    fun k => ffn_at B first last r k
  refine congrArg₂ (· * ·) ((mm_at (φ := .bf16) (ψ := .bf16) _ rfl none _ B.wpg r d).trans (Finset.sum_congr rfl fun k _ => ?_)) ?_
  · rw [truncf_apply, mulf_apply, hx, brow_at _ _ (by decide)]
  · unfold scale
    refine congrArg (fun t => Ideal.rsqrt (t * invLen + eps)) ((sumCol_at _ _ _ _ _ r 0).trans
      (Finset.sum_congr rfl fun k _ => ?_))
    rw [mulf_apply, hx]

/-- The result rows. -/
theorem out_at (first last : BitVec 1) (r : Fin 1024) (d : Fin 1024) :
    k0_pay1 (F := Ideal) (k0_pay60 B.resArr (B.actArr first last) B.wd)
        (k0_pay61 B.resArr (B.actArr first last) B.wd B.gp B.wpg) B.bpg B.p B.wpp B.gf (ix2 r d)
      = B.out first last r d := by
  unfold k0_pay1
  dsimp only
  simp only [shapeCast_self]
  refine (norm_at _ _ (by decide) _ _ _ _ _ _ r d).trans ?_
  unfold Blocks.out
  refine congrArg (fun v => norm v (fun d => B.gf (ix2 0 d)) d) (funext fun d => ?_)
  rw [addf_apply, mulf_apply, ffn_at]
  unfold Blocks.ple afterPle
  refine congrArg (B.ffn first last r d + ·) (congrArg₂ (· * ·) (mm_at (φ := .bf16) (ψ := .bf16) _ rfl none _ B.wpp r d) ?_)
  show Ideal.logistic (_ + _) = _
  rw [gatePre_at, brow_at _ _ (by decide)]

/-- The stored result tile is the array of the result rows. -/
theorem out_arr (first last : BitVec 1) :
    k0_pay1 (F := Ideal) (k0_pay60 B.resArr (B.actArr first last) B.wd)
        (k0_pay61 B.resArr (B.actArr first last) B.wd B.gp B.wpg) B.bpg B.p B.wpp B.gf
      = B.outArr first last := by
  funext y
  rw [eq_ix2 y]
  exact out_at B first last (y 0) (y 1)

end Cert.FfnIdeal.Tile

end
-- ==== Proof.FfnBody.lean ====
/- One run of the fused kernel's body as mathematics: the scratch arrays it fills are the widened mixer rows, the
   widened normed rows and the gated activations, and the block it stores is the tile's result rows. -/
module

public import proofs.«01_k».proof.Proof.FfnFrame
public import proofs.«01_k».proof.Proof.FfnTile
public import Idealize.ShloMosaic.Lib.Ring

@[expose] public section

set_option maxRecDepth 16384

noncomputable section

namespace Cert.FfnIdeal.Tile

open Cert.FfnIdeal Cert.FfnIdeal.Gen Cert.Spec Cert.Ops
open Idealize.ShloMosaic Idealize.ShloMosaic.TcCoe Idealize.ShloMosaic.Tactic Idealize.ShloMosaic.ValueIdx

/-- The offset of a whole two-axis access is zero on both axes. -/
theorem zero2 : (![0, 0] : Fin 2 → ℕ) = fun _ => 0 := by decide

/-- A coordinate of an index of a unit-stride rectangle: the rectangle's offset plus the local coordinate. -/
theorem unit_val {s : Shape} (off size : Fin s.rank → ℕ) (inb : ∀ a, off a + size a ≤ s.size a)
    (x : (Rect.unit off size inb).shape.Idx) (a : Fin s.rank) : ((Rect.unit off size inb).emb x a : ℕ) = off a + x a :=
  congrArg (off a + ·) (Nat.one_mul _)

/-- Two indices into a two-axis array with the same coordinates are equal. -/
theorem idx_ext2 {n k : ℕ} {α : Type} (f : (Shape.Idx ⟨2, ![n, k]⟩) → α) (y : Shape.Idx ⟨2, ![n, k]⟩) (a : Fin n)
    (b : Fin k) (ha : (y 0 : ℕ) = a.val) (hb : (y 1 : ℕ) = b.val) : f y = f (ix2 a b) := by
  refine congrArg f (funext fun j => Fin.ext ?_)
  rcases j with ⟨_ | _ | j, hj⟩
  · exact ha
  · exact hb
  · exact absurd hj (by show ¬ j + 2 < 2; omega)

variable (B : Blocks)

/-! ## The widened mixer rows -/

/-- The mixer rows in a column of the first mixer. -/
theorem mix_lo (q : Fin 1056) (k : Fin 1024) (k' : Fin 512) (h : k.val = k'.val) :
    B.mix q k = widen (fun r => B.attnPrev (ix2 r k')) (fun r => B.attn (ix2 r k')) (fun r => B.attnNext (ix2 r k')) q := by
  unfold Blocks.mix
  rw [dif_pos (by omega)]
  have e : (⟨k.val, by omega⟩ : Fin 512) = k' := Fin.ext h
  rw [e]

/-- The mixer rows in a column of the second mixer. -/
theorem mix_hi (q : Fin 1056) (k : Fin 1024) (k' : Fin 512) (h : k.val = 512 + k'.val) :
    B.mix q k = widen (fun r => B.memPrev (ix2 r k')) (fun r => B.mem (ix2 r k')) (fun r => B.memNext (ix2 r k')) q := by
  unfold Blocks.mix
  rw [dif_neg (by omega)]
  have e : (⟨k.val - 512, by omega⟩ : Fin 512) = k' := Fin.ext (by show k.val - 512 = k'.val; omega)
  rw [e]

/-- The six stores that fill the mixer scratch, last first. -/
abbrev mixPieces : List (View.Piece (Elt Ideal) S1056x1024 .bf16) :=
  [⟨Rect.unit ![1040, 512] S16x512.size inb_S1056x1024_S16x512_1040_512, k0_pay7 B.memNext⟩,
   ⟨Rect.unit ![1040, 0] S16x512.size inb_S1056x1024_S16x512_1040_0, k0_pay6 B.attnNext⟩,
   ⟨Rect.unit ![16, 512] S1024x512.size inb_S1056x1024_S1024x512_16_512, k0_pay5 B.mem⟩,
   ⟨Rect.unit ![16, 0] S1024x512.size inb_S1056x1024_S1024x512_16_0, k0_pay4 B.attn⟩,
   ⟨Rect.unit ![0, 512] S16x512.size inb_S1056x1024_S16x512_0_512, k0_pay3 B.memPrev⟩,
   ⟨Rect.unit ![0, 0] S16x512.size inb_S1056x1024_S16x512_0_0, k0_pay2 B.attnPrev⟩]

/-- They leave the widened mixer rows. -/
theorem mix_canon (y : S1056x1024.Idx) : View.canon (mixPieces B) y = B.mixArr y := by
  refine View.canon_apply_of_pieces B.mixArr _ ?_ y (View.cover_of_tiledBy _ ![16, 512] (by sl_kernel_rfl) y)
  simp only [mixPieces, List.forall_mem_cons, List.not_mem_nil, false_imp_iff, implies_true, and_true]
  refine ⟨fun x => ?_, fun x => ?_, fun x => ?_, fun x => ?_, fun x => ?_, fun x => ?_⟩
  · refine Eq.trans ?_ ((mix_hi B _ _ (x 1) (unit_val _ _ _ x 1)).trans
      (widen_next _ _ _ (x 0) _ (unit_val _ _ _ x 0))).symm
    unfold k0_pay7
    rw [shapeCast_self, shapeCast_self]
    exact congrArg _ (eq_ix2 x)
  · refine Eq.trans ?_ ((mix_lo B _ _ (x 1) ((unit_val _ _ _ x 1).trans (Nat.zero_add _))).trans
      (widen_next _ _ _ (x 0) _ (unit_val _ _ _ x 0))).symm
    unfold k0_pay6
    rw [shapeCast_self, shapeCast_self]
    exact congrArg _ (eq_ix2 x)
  · refine Eq.trans ?_ ((mix_hi B _ _ (x 1) (unit_val _ _ _ x 1)).trans
      (widen_own _ _ _ (x 0) _ (unit_val _ _ _ x 0))).symm
    unfold k0_pay5
    rw [shapeCast_self, shapeCast_self]
    exact congrArg _ (eq_ix2 x)
  · refine Eq.trans ?_ ((mix_lo B _ _ (x 1) ((unit_val _ _ _ x 1).trans (Nat.zero_add _))).trans
      (widen_own _ _ _ (x 0) _ (unit_val _ _ _ x 0))).symm
    unfold k0_pay4
    rw [shapeCast_self, shapeCast_self]
    exact congrArg _ (eq_ix2 x)
  · refine Eq.trans ?_ ((mix_hi B _ _ (x 1) (unit_val _ _ _ x 1)).trans
      (widen_prev _ _ _ (x 0) _ ((unit_val _ _ _ x 0).trans (Nat.zero_add _)))).symm
    unfold k0_pay3
    rw [shapeCast_self, shapeCast_self]
    exact congrArg _ (eq_ix2 x)
  · refine Eq.trans ?_ ((mix_lo B _ _ (x 1) ((unit_val _ _ _ x 1).trans (Nat.zero_add _))).trans
      (widen_prev _ _ _ (x 0) _ ((unit_val _ _ _ x 0).trans (Nat.zero_add _)))).symm
    unfold k0_pay2
    rw [shapeCast_self, shapeCast_self]
    exact congrArg _ (eq_ix2 x)

/-- Loaded whole, the mixer scratch is the widened mixer rows. -/
theorem mix_cov {κ : Kind} {sp : Space} (v : View sig κ sp S1056x1024 .bf16) :
    v.readCov (mixPieces B) (Rect.unit ![0, 0] S1056x1024.size inb_S1056x1024_S1056x1024_0_0).toLoadRect = B.mixArr := by
  rw [View.readCov_eq_canon_ld v _ _ (View.cover_of_tiledBy _ ![16, 512] (by sl_kernel_rfl)), View.ld_unit_zero zero2]
  exact funext (mix_canon B)

/-! ## The widened normed rows -/

/-- The three stores that fill the scratch of normed rows, last first. -/
abbrev hcatPieces (first last : BitVec 1) : List (View.Piece (Elt Ideal) S1056x1024 .bf16) :=
  [⟨Rect.unit ![1040, 0] S16x1024.size inb_S1056x1024_S16x1024_1040_0,
     k0_pay16 (F := Ideal) last (k0_pay10 B.g2) (k0_pay13 (k0_pay8 B.mixArr B.wo) B.xNext)
       (k0_pay14 (k0_pay8 B.mixArr B.wo) B.xNext)⟩,
   ⟨Rect.unit ![0, 0] S16x1024.size inb_S1056x1024_S16x1024_0_0,
     k0_pay15 (F := Ideal) first (k0_pay12 (k0_pay8 B.mixArr B.wo) (k0_pay10 B.g2) B.xPrev)⟩,
   ⟨Rect.unit ![16, 0] S1024x1024.size inb_S1056x1024_S1024x1024_16_0,
     k0_pay11 (F := Ideal) (k0_pay9 B.mixArr B.wo B.x) (k0_pay10 B.g2)⟩]

/-- A row of the tile's own tokens is not padded. -/
theorem padded_own (first last : BitVec 1) (r : Fin 1024) (q : Fin 1056) (h : q.val = 16 + r.val) :
    B.padded first last q = B.nrm q := by
  unfold Blocks.padded
  exact widen_own _ _ _ r q h

/-- They leave the widened, padded normed rows. -/
theorem hcat_canon (first last : BitVec 1) (y : S1056x1024.Idx) :
    View.canon (hcatPieces B first last) y = B.hcatArr first last y := by
  refine View.canon_apply_of_pieces (B.hcatArr first last) _ ?_ y
    (View.cover_of_tiledBy _ ![16, 1024] (by sl_kernel_rfl) y)
  simp only [hcatPieces, List.forall_mem_cons, List.not_mem_nil, false_imp_iff, implies_true, and_true]
  refine ⟨fun x => ?_, fun x => ?_, fun x => ?_⟩
  · refine ((congrArg _ (eq_ix2 x)).trans (next_at B first last (x 0) (x 1))).trans (Eq.symm ?_)
    exact idx_ext2 (B.hcatArr first last) _ ⟨(x 0).val + 1040, by have : (x 0).val < 16 := (x 0).isLt; omega⟩ (x 1)
      ((unit_val _ _ _ x 0).trans (Nat.add_comm _ _)) ((unit_val _ _ _ x 1).trans (Nat.zero_add _))
  · refine ((congrArg _ (eq_ix2 x)).trans (prev_at B first last (x 0) (x 1))).trans (Eq.symm ?_)
    exact idx_ext2 (B.hcatArr first last) _ ⟨(x 0).val, by have : (x 0).val < 16 := (x 0).isLt; omega⟩ (x 1)
      ((unit_val _ _ _ x 0).trans (Nat.zero_add _)) ((unit_val _ _ _ x 1).trans (Nat.zero_add _))
  · refine ((congrArg _ (eq_ix2 x)).trans (own_at B (x 0) (x 1))).trans (Eq.symm ?_)
    refine (idx_ext2 (B.hcatArr first last) _ ⟨(x 0).val + 16, by have : (x 0).val < 1024 := (x 0).isLt; omega⟩ (x 1)
      ((unit_val _ _ _ x 0).trans (Nat.add_comm _ _))
      ((unit_val _ _ _ x 1).trans (Nat.zero_add _))).trans ?_
    exact congrFun (padded_own B first last (x 0) _ (Nat.add_comm _ _)) (x 1)

/-- Loaded whole, that scratch is the widened, padded normed rows. -/
theorem hcat_cov (first last : BitVec 1) {κ : Kind} {sp : Space} (v : View sig κ sp S1056x1024 .bf16) :
    v.readCov (hcatPieces B first last) (Rect.unit ![0, 0] S1056x1024.size inb_S1056x1024_S1056x1024_0_0).toLoadRect
      = B.hcatArr first last := by
  rw [View.readCov_eq_canon_ld v _ _ (View.cover_of_tiledBy _ ![16, 1024] (by sl_kernel_rfl)), View.ld_unit_zero zero2]
  exact funext (hcat_canon B first last)

/-- Loaded from row 16 on, it is the normed rows of the tile's own tokens. -/
theorem mid_cov (first last : BitVec 1) {κ : Kind} {sp : Space} (v : View sig κ sp S1056x1024 .bf16) :
    v.readCov (hcatPieces B first last) (Rect.unit (s := S1056x1024) ![16, 0] S1024x1024.size inb_S1056x1024_S1024x1024_16_0).toLoadRect
      = B.midArr := by
  rw [View.readCov_eq_canon']
  funext x
  refine (hcat_canon B first last _).trans ?_
  refine (idx_ext2 (B.hcatArr first last) _ ⟨(x 0).val + 16, by have : (x 0).val < 1024 := (x 0).isLt; omega⟩ (x 1)
      ((unit_val _ _ _ x 0).trans (Nat.add_comm _ _))
      ((unit_val _ _ _ x 1).trans (Nat.zero_add _))).trans ?_
  exact congrFun (padded_own B first last (x 0) _ (Nat.add_comm _ _)) (x 1)

/-! ## The gated activations -/

/-- The value a store of activations holds, from the blocks of weights it loads at columns `o` on. -/
abbrev chunk (first last : BitVec 1) (o : ℕ) (h : ∀ a, (![0, o] : Fin 2 → ℕ) a + S1024x256.size a ≤ S1024x2816.size a)
    (h3 : ∀ a, (![0, o] : Fin 2 → ℕ) a + S3x256.size a ≤ S3x2816.size a)
    (h1 : ∀ a, (![0, o] : Fin 2 → ℕ) a + S1x256.size a ≤ S1x2816.size a) : Vec Ideal S1024x256 .bf16 :=
  k0_pay44 (F := Ideal) (B.hcatArr first last) (View.ld B.wg (Rect.unit ![0, o] S1024x256.size h)) B.midArr
    (View.ld B.wu (Rect.unit ![0, o] S1024x256.size h)) (View.ld B.cw (Rect.unit ![0, o] S3x256.size h3))
    (View.ld B.cb (Rect.unit ![0, o] S1x256.size h1))

/-- A load of the columns from `o` on reads column `o + j` in place `j`. -/
theorem ld_cols {n k N : ℕ} {φ : EltTy} (w : Vec Ideal ⟨2, ![n, N]⟩ φ) (o : ℕ)
    (h : ∀ a, (![0, o] : Fin 2 → ℕ) a + (![n, k] : Fin 2 → ℕ) a ≤ (![n, N] : Fin 2 → ℕ) a) (r : Fin n) (j : Fin k)
    (hj : o + j.val < N) :
    View.ld (Val := Elt Ideal) w (Rect.unit (s := ⟨2, ![n, N]⟩) ![0, o] ![n, k] h) (ix2 r j) = w (ix2 r ⟨o + j.val, hj⟩) :=
  idx_ext2 w _ r ⟨o + j.val, hj⟩
    ((unit_val (s := ⟨2, ![n, N]⟩) ![0, o] ![n, k] h (ix2 r j) 0).trans (Nat.zero_add _))
    (unit_val (s := ⟨2, ![n, N]⟩) ![0, o] ![n, k] h (ix2 r j) 1)

/-- It is the activations at those columns. -/
theorem chunk_eq (first last : BitVec 1) (o : ℕ) (h h3 h1) (x : S1024x256.Idx) :
    chunk B first last o h h3 h1 x = B.actArr first last ((Rect.unit (s := S1024x2816) ![0, o] S1024x256.size h).emb x) := by
  have ho : o + 256 ≤ 2816 := h 1
  have hx : (x 1).val < 256 := (x 1).isLt
  have hj : o + (x 1).val < 2816 := by omega
  refine ((congrArg _ (eq_ix2 x)).trans (chunk_at _ _ _ _ _ _ (x 0) (x 1) fun k =>
    (congrFun (padded_own B first last (x 0) _ (Nat.add_comm _ _)) k).symm)).trans ?_
  refine Eq.trans ?_ (idx_ext2 (B.actArr first last) ((Rect.unit (s := S1024x2816) ![0, o] S1024x256.size h).emb x) (x 0)
    ⟨o + (x 1).val, hj⟩ ((unit_val (s := S1024x2816) ![0, o] S1024x256.size h x 0).trans (Nat.zero_add _))
    (unit_val (s := S1024x2816) ![0, o] S1024x256.size h x 1)).symm
  have ew : ∀ (w : Vec Ideal S1024x2816 .bf16) (k : Fin 1024),
      View.ld (Val := Elt Ideal) w (Rect.unit ![0, o] S1024x256.size h) (ix2 k (x 1)) = w (ix2 k ⟨o + (x 1).val, hj⟩) :=
    fun w k => ld_cols w o h k (x 1) hj
  have ec : ∀ k : Fin 3,
      View.ld (Val := Elt Ideal) B.cw (Rect.unit ![0, o] S3x256.size h3) (ix2 k (x 1)) = B.cw (ix2 k ⟨o + (x 1).val, hj⟩) :=
    fun k => ld_cols B.cw o h3 k (x 1) hj
  have eb : View.ld (Val := Elt Ideal) B.cb (Rect.unit ![0, o] S1x256.size h1) (ix2 0 (x 1))
      = B.cb (ix2 0 ⟨o + (x 1).val, hj⟩) := ld_cols B.cb o h1 0 (x 1) hj
  rw [eb, ec, ec, ec, funext (ew B.wg), funext (ew B.wu)]
  rfl

/-- The eleven stores that fill the scratch of activations, last first. -/
abbrev actPieces (first last : BitVec 1) : List (View.Piece (Elt Ideal) S1024x2816 .bf16) :=
  [⟨Rect.unit ![0, 2560] S1024x256.size inb_S1024x2816_S1024x256_0_2560, chunk B first last 2560 inb_S1024x2816_S1024x256_0_2560 inb_S3x2816_S3x256_0_2560 inb_S1x2816_S1x256_0_2560⟩,
   ⟨Rect.unit ![0, 2304] S1024x256.size inb_S1024x2816_S1024x256_0_2304, chunk B first last 2304 inb_S1024x2816_S1024x256_0_2304 inb_S3x2816_S3x256_0_2304 inb_S1x2816_S1x256_0_2304⟩,
   ⟨Rect.unit ![0, 2048] S1024x256.size inb_S1024x2816_S1024x256_0_2048, chunk B first last 2048 inb_S1024x2816_S1024x256_0_2048 inb_S3x2816_S3x256_0_2048 inb_S1x2816_S1x256_0_2048⟩,
   ⟨Rect.unit ![0, 1792] S1024x256.size inb_S1024x2816_S1024x256_0_1792, chunk B first last 1792 inb_S1024x2816_S1024x256_0_1792 inb_S3x2816_S3x256_0_1792 inb_S1x2816_S1x256_0_1792⟩,
   ⟨Rect.unit ![0, 1536] S1024x256.size inb_S1024x2816_S1024x256_0_1536, chunk B first last 1536 inb_S1024x2816_S1024x256_0_1536 inb_S3x2816_S3x256_0_1536 inb_S1x2816_S1x256_0_1536⟩,
   ⟨Rect.unit ![0, 1280] S1024x256.size inb_S1024x2816_S1024x256_0_1280, chunk B first last 1280 inb_S1024x2816_S1024x256_0_1280 inb_S3x2816_S3x256_0_1280 inb_S1x2816_S1x256_0_1280⟩,
   ⟨Rect.unit ![0, 1024] S1024x256.size inb_S1024x2816_S1024x256_0_1024, chunk B first last 1024 inb_S1024x2816_S1024x256_0_1024 inb_S3x2816_S3x256_0_1024 inb_S1x2816_S1x256_0_1024⟩,
   ⟨Rect.unit ![0, 768] S1024x256.size inb_S1024x2816_S1024x256_0_768, chunk B first last 768 inb_S1024x2816_S1024x256_0_768 inb_S3x2816_S3x256_0_768 inb_S1x2816_S1x256_0_768⟩,
   ⟨Rect.unit ![0, 512] S1024x256.size inb_S1024x2816_S1024x256_0_512, chunk B first last 512 inb_S1024x2816_S1024x256_0_512 inb_S3x2816_S3x256_0_512 inb_S1x2816_S1x256_0_512⟩,
   ⟨Rect.unit ![0, 256] S1024x256.size inb_S1024x2816_S1024x256_0_256, chunk B first last 256 inb_S1024x2816_S1024x256_0_256 inb_S3x2816_S3x256_0_256 inb_S1x2816_S1x256_0_256⟩,
   ⟨Rect.unit ![0, 0] S1024x256.size inb_S1024x2816_S1024x256_0_0, chunk B first last 0 inb_S1024x2816_S1024x256_0_0 inb_S3x2816_S3x256_0_0 inb_S1x2816_S1x256_0_0⟩]

/-- Loaded whole, that scratch is the gated activations. -/
theorem act_cov (first last : BitVec 1) {κ : Kind} {sp : Space} (v : View sig κ sp S1024x2816 .bf16) :
    v.readCov (actPieces B first last) (Rect.unit ![0, 0] S1024x2816.size inb_S1024x2816_S1024x2816_0_0).toLoadRect
      = B.actArr first last := by
  rw [View.readCov_eq_canon_ld v _ _ (View.cover_of_tiledL (s := S1024x2816) _ ![1024, 256] (by sl_kernel_rfl)), View.ld_unit_zero zero2]
  funext y
  refine View.canon_apply_of_pieces (B.actArr first last) _ ?_ y (View.cover_of_tiledL (s := S1024x2816) _ ![1024, 256] (by sl_kernel_rfl) y)
  simp only [actPieces, List.forall_mem_cons, List.not_mem_nil, false_imp_iff, implies_true, and_true]
  exact ⟨chunk_eq B _ _ _ _ _ _, chunk_eq B _ _ _ _ _ _, chunk_eq B _ _ _ _ _ _, chunk_eq B _ _ _ _ _ _,
    chunk_eq B _ _ _ _ _ _, chunk_eq B _ _ _ _ _ _, chunk_eq B _ _ _ _ _ _, chunk_eq B _ _ _ _ _ _,
    chunk_eq B _ _ _ _ _ _, chunk_eq B _ _ _ _ _ _, chunk_eq B _ _ _ _ _ _⟩

section Cuts

variable (H : Vec Ideal S1056x1024 .bf16) (wg wu : Vec Ideal S1024x256 .bf16) (M : Vec Ideal S1024x1024 .bf16)
  (cw : Vec Ideal S3x256 .f32) (cb : Vec Ideal S1x256 .f32)

/-! Each of the eleven stores computes its value by the same operations, whatever it names of them. -/

/-- The value of store 0 is the common form. -/
theorem cut0 : k0_pay22 (F := Ideal) (k0_pay18 M wu) (k0_pay19 cw) (k0_pay20 H wg cw) (k0_pay21 H wg) cb
    = k0_pay44 H wg M wu cw cb := rfl
/-- The value of store 1 is the common form. -/
theorem cut1 : k0_pay29 (F := Ideal) (k0_pay23 H wg) (k0_pay24 M wu) (k0_pay25 cw) (k0_pay26 H wg cw) (k0_pay27 H wg)
    (k0_pay28 cw) cb = k0_pay44 H wg M wu cw cb := rfl
/-- The value of store 2 is the common form. -/
theorem cut2 : k0_pay35 (F := Ideal) (k0_pay30 H wg) (k0_pay31 M wu) (k0_pay32 cw) (k0_pay33 H wg) (k0_pay34 cw) cb
    = k0_pay44 H wg M wu cw cb := rfl
/-- The value of store 3 is the common form. -/
theorem cut3 : k0_pay38 (F := Ideal) (k0_pay36 H wg) (k0_pay37 M wu) cw cb = k0_pay44 H wg M wu cw cb := rfl
/-- The value of store 4 is the common form. -/
theorem cut4 : k0_pay41 (F := Ideal) (k0_pay39 H wg) M (k0_pay40 wu) cw cb = k0_pay44 H wg M wu cw cb := rfl
/-- The value of store 5 is the common form. -/
theorem cut5 : k0_pay43 (F := Ideal) (k0_pay42 H wg) M wu cw cb = k0_pay44 H wg M wu cw cb := rfl
/-- The value of store 7 is the common form. -/
theorem cut7 : k0_pay46 (F := Ideal) (k0_pay45 H wg M wu cw cb) = k0_pay44 H wg M wu cw cb := rfl
/-- The value of store 8 is the common form. -/
theorem cut8 : k0_pay51 (F := Ideal) (k0_pay47 M wu) (k0_pay49 H wg cw cb) (k0_pay50 H wg cw cb)
    = k0_pay44 H wg M wu cw cb := rfl
/-- The value of store 9 is the common form. -/
theorem cut9 : k0_pay56 (F := Ideal) (k0_pay52 M wu) (k0_pay53 H wg cw cb) (k0_pay54 H wg cw cb) k0_pay55
    = k0_pay44 H wg M wu cw cb := rfl
/-- The value of store 10 is the common form. -/
theorem cut10 : k0_pay59 (F := Ideal) (k0_pay57 M wu) (k0_pay58 H wg cw cb) = k0_pay44 H wg M wu cw cb := rfl

end Cuts

/-! ## The block stored -/

variable (m : (ℓ : Loc nD τ sig) → Buf (Elt Ideal) ℓ)

/-- The blocks of grid point `t`. -/
abbrev blocks (c : Dev nD) (t : Fin cfg0.N) : Blocks :=
  ⟨iblk m c 0 t, iblk m c 1 t, iblk m c 2 t, iblk m c 3 t, iblk m c 4 t, iblk m c 5 t, iblk m c 6 t, iblk m c 7 t,
   iblk m c 8 t, iblk m c 9 t, iblk m c 10 t, iblk m c 11 t, iblk m c 12 t, iblk m c 13 t, iblk m c 14 t, iblk m c 15 t,
   iblk m c 16 t, iblk m c 17 t, iblk m c 18 t, iblk m c 19 t, iblk m c 20 t, iblk m c 21 t⟩

/-- Whether a grid point is the first tile of its sequence. -/
def firstAt (t : Fin cfg0.N) : BitVec 1 := tileRun.sl.v10 (grid0.coords t)
/-- Whether a grid point is the last tile of its sequence. -/
def lastAt (t : Fin cfg0.N) : BitVec 1 := tileRun.sl.v21 (grid0.coords t)

/-- The body's two flags: the first tile of a sequence is the even one, the last the odd one. -/
theorem first_last : ∀ t : Fin cfg0.N, (firstAt t = 1 ↔ t.val % 2 = 0) ∧ (lastAt t = 1 ↔ t.val % 2 = 1) := by
  decide +kernel

set_option maxHeartbeats 1000000 in
/-- One run leaves the tile's result rows in the output block. -/
theorem outAt_eq (c : Dev nD) (t : Fin cfg0.N) : outAt m c t = (blocks m c t).outArr (firstAt t) (lastAt t) := by
  unfold outAt tileOut
  rw [View.read_writes_eq_canon _ _ _ (fun y => tile_cover c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold tileRun
  dsimp only
  rw [View.canon_cons_unit_zero zero2]
  unfold tileRun.sl.r_38 tileRun.sl.r_39
  unfold tileRun.sl.v596
  unfold tileRun.sl.H22_1
  unfold tileRun.sl.v598
  unfold tileRun.sl.HS2_11
  unfold tileRun.sl.r_7 tileRun.sl.r_8 tileRun.sl.r_9 tileRun.sl.r_10 tileRun.sl.r_11 tileRun.sl.r_12 tileRun.sl.r_13 tileRun.sl.r_14 tileRun.sl.r_15 tileRun.sl.r_16 tileRun.sl.r_17 tileRun.sl.r_18 tileRun.sl.r_19 tileRun.sl.r_20 tileRun.sl.r_21 tileRun.sl.r_22 tileRun.sl.r_23 tileRun.sl.r_24 tileRun.sl.r_25 tileRun.sl.r_26 tileRun.sl.r_27 tileRun.sl.r_28 tileRun.sl.r_29 tileRun.sl.r_30 tileRun.sl.r_31 tileRun.sl.r_32 tileRun.sl.r_33 tileRun.sl.r_34 tileRun.sl.r_35 tileRun.sl.r_36 tileRun.sl.r_37
  unfold tileRun.sl.v123 tileRun.sl.v127
  unfold tileRun.sl.HS1_3
  unfold tileRun.sl.r_2 tileRun.sl.r_4 tileRun.sl.r_5 tileRun.sl.r_6
  unfold tileRun.sl.r_3
  unfold tileRun.sl.r_1
  unfold tileRun.sl.v52
  unfold tileRun.sl.HS0_6
  unfold tileRun.sl.r
  simp only [View.readAt_eq_ld, Memref.IsWhole.read_unread]
  simp only [View.ld_unit_zero (S := S1024x1024) zero2, View.ld_unit_zero (S := S16x1024) zero2,
    View.ld_unit_zero (S := S1024x512) zero2,
    View.ld_unit_zero (S := S16x512) zero2, View.ld_unit_zero (S := S1024x256) zero2, View.ld_unit_zero (S := S1x1024) zero2,
    View.ld_unit_zero (S := S2816x1024) zero2, View.ld_unit_zero (S := S256x1024) zero2]
  rw [mix_cov (blocks m c t)]
  unfold firstAt lastAt
  rw [mid_cov (blocks m c t) (tileRun.sl.v10 (grid0.coords t)) (tileRun.sl.v21 (grid0.coords t))]
  rw [hcat_cov (blocks m c t) (tileRun.sl.v10 (grid0.coords t)) (tileRun.sl.v21 (grid0.coords t))]
  simp only [cut0, cut1, cut2, cut3, cut4, cut5, cut7, cut8, cut9, cut10]
  rw [act_cov (blocks m c t) (tileRun.sl.v10 (grid0.coords t)) (tileRun.sl.v21 (grid0.coords t))]
  rw [View.readCov_unit_zero _ zero2, res_arr (blocks m c t)]
  exact out_arr (blocks m c t) _ _

end Cert.FfnIdeal.Tile

end
-- ==== Proof.FfnArray.lean ====
/- The fused kernel's blocks as rows of the argument arrays, and its result array: row `n` is the result row of token
   `n % 2048` of sequence `n / 2048`. -/
module

public import proofs.«01_k».proof.Proof.FfnBody
public import proofs.«01_k».proof.Proof.FfnLayer
public import Idealize.ShloMosaic.Lib.Pipeline.ValueKit
public import Idealize.ShloMosaic.Lib.Claim

@[expose] public section

set_option maxRecDepth 16384

noncomputable section

namespace Cert.FfnIdeal.Tile

open Cert.FfnIdeal Cert.FfnIdeal.Gen Cert.Spec Cert.Ops
open Idealize.ShloMosaic hiding ix1 ix2 ix3 ix4
open Idealize.ShloMosaic.TcCoe Idealize.ShloMosaic.Tactic Idealize.ShloMosaic.ValueIdx

variable (m : (ℓ : Loc nD τ sig) → Buf (Elt Ideal) ℓ) (c : Dev nD)

/-- The argument arrays of a device. -/
def arrays : Arrays where
  x := m ((c : Thread nD τ).loc main_arg0)
  attn := m ((c : Thread nD τ).loc main_arg1)
  mem := m ((c : Thread nD τ).loc main_arg2)
  p := m ((c : Thread nD τ).loc main_arg3)
  wo := m ((c : Thread nD τ).loc main_arg4)
  g2 := m ((c : Thread nD τ).loc main_arg5)
  wg := m ((c : Thread nD τ).loc main_arg6)
  cw := m ((c : Thread nD τ).loc main_arg7)
  cb := m ((c : Thread nD τ).loc main_arg8)
  wu := m ((c : Thread nD τ).loc main_arg9)
  wd := m ((c : Thread nD τ).loc main_arg10)
  gp := m ((c : Thread nD τ).loc main_arg11)
  wpg := m ((c : Thread nD τ).loc main_arg12)
  bpg := m ((c : Thread nD τ).loc main_arg13)
  wpp := m ((c : Thread nD τ).loc main_arg14)
  gf := m ((c : Thread nD τ).loc main_arg15)

/-- The sequence of row `n` of the flattened tokens. -/
def seqOf (n : Fin 32768) : Fin 16 := ⟨n.val / 2048, by omega⟩
/-- The position of row `n` of the flattened tokens in its sequence. -/
def posOf (n : Fin 32768) : Fin 2048 := ⟨n.val % 2048, by omega⟩

/-! ## The arrays the windows stage -/

/-- The arrays indexed by a token: row `n` of the flattened array is that token's row of the argument. -/
theorem host_tokens (n : Fin 32768) :
    (∀ d, V m c main_v0 (ix2 n d) = (arrays m c).x (ix3 (seqOf n) (posOf n) d))
    ∧ (∀ d, V m c main_v1 (ix2 n d) = (arrays m c).attn (ix3 (seqOf n) (posOf n) d))
    ∧ (∀ d, V m c main_v2 (ix2 n d) = (arrays m c).mem (ix3 (seqOf n) (posOf n) d))
    ∧ ∀ d, V m c main_v4 (ix2 n d) = (arrays m c).p (ix4 0 (seqOf n) (posOf n) d) := by
  unfold arrays seqOf posOf
  refine ⟨?_, ?_, ?_, ?_⟩ <;> intro d <;> entry_read <;> pointwise <;> blk_ext

/-- The weight matrices: the argument without its leading axis. -/
theorem host_matrices :
    (∀ k d, V m c main_v6 (ix2 k d) = (arrays m c).wo (ix3 0 k d))
    ∧ (∀ k d, V m c main_v10 (ix2 k d) = (arrays m c).wg (ix3 0 k d))
    ∧ (∀ k d, V m c main_v12 (ix2 k d) = (arrays m c).wu (ix3 0 k d))
    ∧ (∀ k d, V m c main_v14 (ix2 k d) = (arrays m c).wd (ix3 0 k d))
    ∧ (∀ k d, V m c main_v15 (ix2 k d) = (arrays m c).cw (ix3 0 k d))
    ∧ (∀ k d, V m c main_v21 (ix2 k d) = (arrays m c).wpg (ix3 0 k d))
    ∧ ∀ k d, V m c main_v25 (ix2 k d) = (arrays m c).wpp (ix3 0 k d) := by
  unfold arrays
  refine ⟨?_, ?_, ?_, ?_, ?_, ?_, ?_⟩ <;> intro k d <;> entry_read <;> pointwise <;> blk_ext

/-- The weight vectors: one row. -/
theorem host_vectors :
    (∀ d, V m c main_v8 (ix2 0 d) = (arrays m c).g2 (ix2 0 d))
    ∧ (∀ d, V m c main_v17 (ix2 0 d) = (arrays m c).cb (ix2 0 d))
    ∧ (∀ d, V m c main_v19 (ix2 0 d) = (arrays m c).gp (ix2 0 d))
    ∧ (∀ d, V m c main_v23 (ix2 0 d) = (arrays m c).bpg (ix2 0 d))
    ∧ ∀ d, V m c main_v26 (ix2 0 d) = (arrays m c).gf (ix1 d) := by
  unfold arrays
  refine ⟨?_, ?_, ?_, ?_, ?_⟩ <;> intro d <;> entry_read <;> pointwise <;> blk_ext

/-! ## Which block each window stages at a grid point -/

/-- The blocks of the token windows: the tile itself, the sixteen rows before it and the sixteen rows after it. -/
theorem index_tile : ∀ t : Fin cfg0.N,
    (win0_0.index t = ![t.val, 0] ∧ win0_3.index t = ![t.val, 0] ∧ win0_6.index t = ![t.val, 0]
      ∧ win0_9.index t = ![t.val, 0] ∧ win0_22.index t = ![t.val, 0])
    ∧ (win0_1.index t = ![64 * t.val - 1, 0] ∧ win0_4.index t = ![64 * t.val - 1, 0] ∧ win0_7.index t = ![64 * t.val - 1, 0])
    ∧ win0_2.index t = ![min (64 * (t.val + 1)) 2047, 0] ∧ win0_5.index t = ![min (64 * (t.val + 1)) 2047, 0]
    ∧ win0_8.index t = ![min (64 * (t.val + 1)) 2047, 0] := by decide +kernel

/-- The weights' windows stage their whole arrays. -/
theorem index_whole : ∀ t : Fin cfg0.N,
    win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0] := by
  decide +kernel

/-! ## The blocks -/

/-- That `B` holds the blocks of tile `t` of the arrays `A`: rows of the tile, of the sixteen tokens before it and of the
    sixteen after it (held inside the array), and the whole of each weight. -/
structure BlocksOf (B : Blocks) (A : Arrays) (t : ℕ) : Prop where
  x : ∀ r d (n : Fin 32768), n.val = 1024 * t + r.val →
    B.x (ix2 r d) = A.x (ix3 (seqOf n) (posOf n) d)
  xPrev : ∀ r d (n : Fin 32768), n.val = 16 * (64 * t - 1) + r.val →
    B.xPrev (ix2 r d) = A.x (ix3 (seqOf n) (posOf n) d)
  xNext : ∀ r d (n : Fin 32768), n.val = 16 * min (64 * (t + 1)) 2047 + r.val →
    B.xNext (ix2 r d) = A.x (ix3 (seqOf n) (posOf n) d)
  attn : ∀ r d (n : Fin 32768), n.val = 1024 * t + r.val →
    B.attn (ix2 r d) = A.attn (ix3 (seqOf n) (posOf n) d)
  attnPrev : ∀ r d (n : Fin 32768), n.val = 16 * (64 * t - 1) + r.val →
    B.attnPrev (ix2 r d) = A.attn (ix3 (seqOf n) (posOf n) d)
  attnNext : ∀ r d (n : Fin 32768), n.val = 16 * min (64 * (t + 1)) 2047 + r.val →
    B.attnNext (ix2 r d) = A.attn (ix3 (seqOf n) (posOf n) d)
  mem : ∀ r d (n : Fin 32768), n.val = 1024 * t + r.val →
    B.mem (ix2 r d) = A.mem (ix3 (seqOf n) (posOf n) d)
  memPrev : ∀ r d (n : Fin 32768), n.val = 16 * (64 * t - 1) + r.val →
    B.memPrev (ix2 r d) = A.mem (ix3 (seqOf n) (posOf n) d)
  memNext : ∀ r d (n : Fin 32768), n.val = 16 * min (64 * (t + 1)) 2047 + r.val →
    B.memNext (ix2 r d) = A.mem (ix3 (seqOf n) (posOf n) d)
  p : ∀ r d (n : Fin 32768), n.val = 1024 * t + r.val → B.p (ix2 r d) = A.p (ix4 0 (seqOf n) (posOf n) d)
  wo : ∀ k d, B.wo (ix2 k d) = A.wo (ix3 0 k d)
  g2 : ∀ d, B.g2 (ix2 0 d) = A.g2 (ix2 0 d)
  wg : ∀ k d, B.wg (ix2 k d) = A.wg (ix3 0 k d)
  wu : ∀ k d, B.wu (ix2 k d) = A.wu (ix3 0 k d)
  wd : ∀ k d, B.wd (ix2 k d) = A.wd (ix3 0 k d)
  cw : ∀ k d, B.cw (ix2 k d) = A.cw (ix3 0 k d)
  cb : ∀ d, B.cb (ix2 0 d) = A.cb (ix2 0 d)
  gp : ∀ d, B.gp (ix2 0 d) = A.gp (ix2 0 d)
  wpg : ∀ k d, B.wpg (ix2 k d) = A.wpg (ix3 0 k d)
  bpg : ∀ d, B.bpg (ix2 0 d) = A.bpg (ix2 0 d)
  wpp : ∀ k d, B.wpp (ix2 k d) = A.wpp (ix3 0 k d)
  gf : ∀ d, B.gf (ix2 0 d) = A.gf (ix1 d)

set_option maxHeartbeats 1000000 in
/-- The blocks staged at a grid point are those of its tile. -/
theorem blocks_of (t : Fin cfg0.N) : BlocksOf (blocks m c t) (arrays m c) t.val := by
  obtain ⟨⟨o0, o3, o6, o9, -⟩, ⟨p1, p4, p7⟩, n2, n5, n8⟩ := index_tile t
  obtain ⟨w10, w11, w12, w13, w14, w15, w16, w17, w18, w19, w20, w21⟩ := index_whole t
  constructor
  case' x | xPrev | xNext => intro r d n h; refine Eq.trans ?_ ((host_tokens m c n).1 d)
  case' attn | attnPrev | attnNext => intro r d n h; refine Eq.trans ?_ ((host_tokens m c n).2.1 d)
  case' mem | memPrev | memNext => intro r d n h; refine Eq.trans ?_ ((host_tokens m c n).2.2.1 d)
  case' p => intro r d n h; refine Eq.trans ?_ ((host_tokens m c n).2.2.2 d)
  case' wo => intro k d; refine Eq.trans ?_ ((host_matrices m c).1 k d)
  case' wg => intro k d; refine Eq.trans ?_ ((host_matrices m c).2.1 k d)
  case' wu => intro k d; refine Eq.trans ?_ ((host_matrices m c).2.2.1 k d)
  case' wd => intro k d; refine Eq.trans ?_ ((host_matrices m c).2.2.2.1 k d)
  case' cw => intro k d; refine Eq.trans ?_ ((host_matrices m c).2.2.2.2.1 k d)
  case' wpg => intro k d; refine Eq.trans ?_ ((host_matrices m c).2.2.2.2.2.1 k d)
  case' wpp => intro k d; refine Eq.trans ?_ ((host_matrices m c).2.2.2.2.2.2 k d)
  case' g2 => intro d; refine Eq.trans ?_ ((host_vectors m c).1 d)
  case' cb => intro d; refine Eq.trans ?_ ((host_vectors m c).2.1 d)
  case' gp => intro d; refine Eq.trans ?_ ((host_vectors m c).2.2.1 d)
  case' bpg => intro d; refine Eq.trans ?_ ((host_vectors m c).2.2.2.1 d)
  case' gf => intro d; refine Eq.trans ?_ ((host_vectors m c).2.2.2.2 d)
  all_goals
    dsimp only
    unfold iblk
    blk_simp
    refine congrArg _ ?_
  all_goals blk_ext [o0, o3, o6, o9, p1, p4, p7, n2, n5, n8, w10, w11, w12, w13, w14, w15, w16, w17, w18, w19, w20, w21]
  all_goals
    show _ * _ + r.val = n.val
    omega

end Cert.FfnIdeal.Tile

end
-- ==== Proof.FfnResult.lean ====
/- The fused kernel's result array: row `n` is the result row of token `n % 2048` of sequence `n / 2048`. A tile's
   widened rows are the rows of its sequence, padded with zeros at the ends of the sequence. -/
module

public import proofs.«01_k».proof.Proof.FfnArray

@[expose] public section

set_option maxRecDepth 16384

noncomputable section

namespace Cert.FfnIdeal.Tile

open Cert.FfnIdeal Cert.FfnIdeal.Gen Cert.Spec Cert.Ops
open Idealize.ShloMosaic hiding ix1 ix2 ix3 ix4
open Idealize.ShloMosaic.TcCoe Idealize.ShloMosaic.Tactic Idealize.ShloMosaic.ValueIdx

/-- Row `q` of the widened tile `t` is row `n` of the flattened tokens. -/
def Placed (t : ℕ) (q : Fin 1056) (n : Fin 32768) : Prop :=
  (q.val < 16 ∧ n.val = 16 * (64 * t - 1) + q.val)
  ∨ (16 ≤ q.val ∧ q.val < 1040 ∧ n.val = 1024 * t + (q.val - 16))
  ∨ (1040 ≤ q.val ∧ n.val = 16 * min (64 * (t + 1)) 2047 + (q.val - 1040))

/-- A widened row whose three parts are rows of one array is that array's row. -/
theorem widen_placed {α : Type} (prev : Fin 16 → α) (own : Fin 1024 → α) (next : Fin 16 → α) (f : Fin 32768 → α) (t : ℕ)
    (hp : ∀ (r : Fin 16) (n : Fin 32768), n.val = 16 * (64 * t - 1) + r.val → prev r = f n)
    (ho : ∀ (r : Fin 1024) (n : Fin 32768), n.val = 1024 * t + r.val → own r = f n)
    (hn : ∀ (r : Fin 16) (n : Fin 32768), n.val = 16 * min (64 * (t + 1)) 2047 + r.val → next r = f n)
    (q : Fin 1056) (n : Fin 32768) (h : Placed t q n) : widen prev own next q = f n := by
  have hq := q.isLt
  rcases h with ⟨h1, h2⟩ | ⟨h1, h2, h3⟩ | ⟨h1, h2⟩
  · exact (widen_prev prev own next ⟨q.val, h1⟩ q rfl).trans (hp _ n h2)
  · exact (widen_own prev own next ⟨q.val - 16, by omega⟩ q (by show q.val = 16 + (q.val - 16); omega)).trans (ho _ n h3)
  · exact (widen_next prev own next ⟨q.val - 1040, by omega⟩ q (by show q.val = 1040 + (q.val - 1040); omega)).trans
      (hn _ n h2)

variable {B : Blocks} {A : Arrays} {t : ℕ} (h : BlocksOf B A t)

include h

/-- The residual input of a widened row. -/
theorem row_placed (q : Fin 1056) (n : Fin 32768) (hp : Placed t q n) :
    B.row q = fun d => A.x (ix3 (seqOf n) (posOf n) d) := by
  unfold Blocks.row
  exact widen_placed _ _ _ (fun n d => A.x (ix3 (seqOf n) (posOf n) d)) t
    (fun r n e => funext fun d => h.xPrev r d n e) (fun r n e => funext fun d => h.x r d n e)
    (fun r n e => funext fun d => h.xNext r d n e) q n hp

/-- The mixer outputs of a widened row. -/
theorem mix_placed (q : Fin 1056) (n : Fin 32768) (hp : Placed t q n) : B.mix q = A.mix (seqOf n) (posOf n) := by
  funext k
  unfold Blocks.mix Arrays.mix
  by_cases hk : k.val < 512
  · rw [dif_pos hk, dif_pos hk]
    exact widen_placed _ _ _ (fun n => A.attn (ix3 (seqOf n) (posOf n) ⟨k.val, hk⟩)) t
      (fun r n e => h.attnPrev r _ n e) (fun r n e => h.attn r _ n e) (fun r n e => h.attnNext r _ n e) q n hp
  · rw [dif_neg hk, dif_neg hk]
    exact widen_placed _ _ _ (fun n => A.mem (ix3 (seqOf n) (posOf n) ⟨k.val - 512, by omega⟩)) t
      (fun r n e => h.memPrev r _ n e) (fun r n e => h.mem r _ n e) (fun r n e => h.memNext r _ n e) q n hp

/-- The residual row of a widened row. -/
theorem res_placed (q : Fin 1056) (n : Fin 32768) (hp : Placed t q n) : B.res q = A.res (seqOf n) (posOf n) := by
  unfold Blocks.res Arrays.res
  rw [row_placed h q n hp, mix_placed h q n hp, show (fun k d => B.wo (ix2 k d)) = fun k d => A.wo (ix3 0 k d) from
    funext fun k => funext fun d => h.wo k d]

/-- The normed row of a widened row. -/
theorem nrm_placed (q : Fin 1056) (n : Fin 32768) (hp : Placed t q n) : B.nrm q = A.normed (seqOf n) (posOf n) := by
  unfold Blocks.nrm Arrays.normed
  rw [res_placed h q n hp, show (fun d => B.g2 (ix2 0 d)) = fun d => A.g2 (ix2 0 d) from funext h.g2]

/-- A normed row that lies in the tile's sequence is a row of the padded sequence. -/
theorem nrm_padded (ht : t < 32) (q : Fin 1056) (n : Fin 32768) (hp : Placed t q n) (k : ℕ)
    (hs : n.val / 2048 = t / 2) (hk : k = n.val % 2048 + 1) : B.nrm q = A.padded ⟨t / 2, by omega⟩ k := by
  rw [nrm_placed h q n hp]
  unfold Arrays.padded
  rw [dif_pos ⟨by omega, by omega⟩]
  exact congrArg₂ A.normed (Fin.ext hs) (Fin.ext (by show n.val % 2048 = k - 1; omega))

variable (first last : BitVec 1) (hf : first = 1 ↔ t % 2 = 0) (hl : last = 1 ↔ t % 2 = 1)

include hf hl

/-- The widened rows from the last of the halo before to the first of the halo after are rows of the padded sequence. -/
theorem padded_placed (ht : t < 32) (q : Fin 1056) (h1 : 15 ≤ q.val) (h2 : q.val ≤ 1040) (k : ℕ)
    (hk : k + 15 = 1024 * (t % 2) + q.val) : B.padded first last q = A.padded ⟨t / 2, by omega⟩ k := by
  have z : ∀ b, k = 0 ∨ k = 2049 → A.padded b k = fun _ => 0 := fun b hk => by
    unfold Arrays.padded
    exact dif_neg (by omega)
  unfold Blocks.padded
  by_cases c1 : q.val = 15
  · rw [widen_prev _ _ _ ⟨15, by omega⟩ q c1]
    by_cases e : t % 2 = 0
    · rw [if_pos (hf.2 e), z _ (by omega)]
    · rw [if_neg (fun h => e (hf.1 h))]
      exact nrm_padded h ht q ⟨1024 * t - 1, by omega⟩ (Or.inl ⟨by omega, by show 1024 * t - 1 = _; omega⟩) k
        (by show (1024 * t - 1) / 2048 = t / 2; omega) (by show k = (1024 * t - 1) % 2048 + 1; omega)
  by_cases c2 : q.val = 1040
  · rw [widen_next _ _ _ ⟨0, by omega⟩ q c2]
    by_cases e : t % 2 = 1
    · rw [if_pos (hl.2 e), z _ (by omega)]
    · rw [if_neg (fun h => e (hl.1 h))]
      exact nrm_padded h ht q ⟨1024 * (t + 1), by omega⟩
        (Or.inr (Or.inr ⟨by omega, by show 1024 * (t + 1) = _; omega⟩)) k
        (by show 1024 * (t + 1) / 2048 = t / 2; omega) (by show k = 1024 * (t + 1) % 2048 + 1; omega)
  · rw [widen_own _ _ _ ⟨q.val - 16, by omega⟩ q (by show q.val = 16 + (q.val - 16); omega)]
    exact nrm_padded h ht q ⟨1024 * t + (q.val - 16), by omega⟩
      (Or.inr (Or.inl ⟨by omega, by omega, rfl⟩)) k
      (by show (1024 * t + (q.val - 16)) / 2048 = t / 2; omega)
      (by show k = (1024 * t + (q.val - 16)) % 2048 + 1; omega)

variable (ht : t < 32) (r : Fin 1024) (n : Fin 32768) (hn : n.val = 1024 * t + r.val)

include ht hn

/-- The gated activations of a row of the tile. -/
theorem acts_placed : B.acts first last r = A.acts (seqOf n) (posOf n) := by
  have hr := r.isLt
  have hb : (⟨t / 2, by omega⟩ : Fin 16) = seqOf n := Fin.ext (by show t / 2 = n.val / 2048; omega)
  have hp : (posOf n).val = 1024 * (t % 2) + r.val := by show n.val % 2048 = _; omega
  funext j
  unfold Blocks.acts Arrays.acts
  rw [padded_placed h first last hf hl ht ⟨r.val + 15, by omega⟩ (Nat.le_add_left _ _) (by show r.val + 15 ≤ 1040; omega)
      (posOf n).val (by show _ = _ + (r.val + 15); omega),
    padded_placed h first last hf hl ht ⟨r.val + 16, by omega⟩ (by show 15 ≤ r.val + 16; omega)
      (by show r.val + 16 ≤ 1040; omega) ((posOf n).val + 1) (by show _ = _ + (r.val + 16); omega),
    padded_placed h first last hf hl ht ⟨r.val + 17, by omega⟩ (by show 15 ≤ r.val + 17; omega)
      (by show r.val + 17 ≤ 1040; omega) ((posOf n).val + 2) (by show _ = _ + (r.val + 17); omega), hb,
    h.cw, h.cw, h.cw, h.cb, show (fun k => B.wg (ix2 k j)) = fun k => A.wg (ix3 0 k j) from funext fun k => h.wg k j,
    show (fun k => B.wu (ix2 k j)) = fun k => A.wu (ix3 0 k j) from funext fun k => h.wu k j]

/-- The row after the feed-forward block. -/
theorem ffn_placed : B.ffn first last r = A.ffn (seqOf n) (posOf n) := by
  have hr := r.isLt
  unfold Blocks.ffn Arrays.ffn
  rw [acts_placed h first last hf hl ht r n hn,
    res_placed h ⟨r.val + 16, by omega⟩ n (Or.inr (Or.inl ⟨Nat.le_add_left _ _, by show r.val + 16 < 1040; omega, by
      show n.val = 1024 * t + (r.val + 16 - 16); omega⟩)),
    show (fun j d => B.wd (ix2 j d)) = fun j d => A.wd (ix3 0 j d) from funext fun k => funext fun d => h.wd k d]

/-- The row with its embedding gated in. -/
theorem ple_placed : B.ple first last r = A.ple (seqOf n) (posOf n) := by
  unfold Blocks.ple Arrays.ple
  rw [ffn_placed h first last hf hl ht r n hn, show (fun d => B.gp (ix2 0 d)) = fun d => A.gp (ix2 0 d) from funext h.gp,
    show (fun d => B.bpg (ix2 0 d)) = fun d => A.bpg (ix2 0 d) from funext h.bpg,
    show (fun k d => B.wpg (ix2 k d)) = fun k d => A.wpg (ix3 0 k d) from funext fun k => funext fun d => h.wpg k d,
    show (fun k d => B.wpp (ix2 k d)) = fun k d => A.wpp (ix3 0 k d) from funext fun k => funext fun d => h.wpp k d,
    show (fun k => B.p (ix2 r k)) = fun k => A.p (ix4 0 (seqOf n) (posOf n) k) from funext fun k => h.p r k n hn]

/-- The result row. -/
theorem out_placed : B.out first last r = A.out (seqOf n) (posOf n) := by
  unfold Blocks.out Arrays.out
  rw [ple_placed h first last hf hl ht r n hn, show (fun d => B.gf (ix2 0 d)) = fun d => A.gf (ix1 d) from funext h.gf]

omit h hf hl ht hn

/-! ## The result array -/

variable (m : (ℓ : Loc nD τ sig) → Buf (Elt Ideal) ℓ) (c : Dev nD)

/-- The result array: row `n` is the result row of its token. -/
def result : Vec Ideal S32768x1024 .f32 := fun y => (arrays m c).out (seqOf (y 0)) (posOf (y 0)) (y 1)

/-- After the run the result array is that one. -/
theorem array_eq : (data m 0 c).arrAt 22 cfg0.N = result m c := by
  refine (data m 0 c).arrAt_eq_of_covers 22 _ (by decide +kernel) fun t hf y => ?_
  blk_simp
  rw [after0_22, outAt_eq]
  have h0 : ((win0_22.blk t).view.emb y 0 : ℕ) = 1024 * t.val + (y 0).val := by
    blk_simp
    rw [(index_tile t).1.2.2.2.2]
    show t.val * 1024 + (y 0).val = _
    omega
  have h1 : ((win0_22.blk t).view.emb y 1 : ℕ) = (y 1).val := by
    blk_simp
    rw [(index_tile t).1.2.2.2.2]
    show 0 * 1024 + (y 1).val = _
    omega
  unfold Blocks.outArr result
  dsimp only
  rw [out_placed (blocks_of m c t) _ _ (first_last t).1 (first_last t).2 t.isLt (y 0) _ h0]
  exact congrArg _ (Fin.ext h1.symm)

end Cert.FfnIdeal.Tile

end
-- ==== Proof.FfnReference.lean ====
/- The plain-mathematics reference computes `Arrays.out`: every buffer of its run that the result passes through, read
   at a token and a column. -/
module

public import proofs.«01_k».proof.Proof.Gen.FfnRefIdeal.Read
public import proofs.«01_k».proof.Proof.FfnLayer
public import Idealize.ShloMosaic.Lib.KernelVsHost

@[expose] public section

noncomputable section

namespace Cert.FfnRefIdeal.Math

open Cert.FfnRefIdeal Cert.FfnRefIdeal.Gen Cert.FfnRefIdeal.Read Cert.Spec
open Idealize.ShloMosaic Idealize.ShloMosaic.ValueIdx

variable (A : Arrays)

/-- The constant zero. -/
theorem zero_word : (FloatOps.ofBits .f32 0x00000000#32 : Ideal .f32) = 0 := Ideal.ofBits_zero_f32

/-- The joined mixer outputs. -/
theorem mix_at (b : Fin 16) (s : Fin 2048) (k : Fin 1024) :
    val_main_v1 (F := Ideal) A.attn A.mem (ix3 b s k) = A.mix b s k := by
  rw [val_main_v1_apply]
  show val_main_v0 (F := Ideal) A.attn A.mem (ix3 b s k) = _
  unfold val_main_v0 Arrays.mix
  by_cases h : k.val < 512
  · rw [dif_pos h]
    refine concatenate_pair_apply_left (s₁ := S16x2048x512) (s₂ := S16x2048x512) 2 A.attn A.mem _ (ix3 b s k) rfl
      (ix3 b s ⟨k.val, h⟩) fun a => ?_
    match a with
    | ⟨0, _⟩ => rfl
    | ⟨1, _⟩ => rfl
    | ⟨2, _⟩ => rfl
  · rw [dif_neg h]
    refine concatenate_pair_apply_right (s₁ := S16x2048x512) (s₂ := S16x2048x512) 2 A.attn A.mem _ (ix3 b s k) rfl rfl
      (ix3 b s ⟨k.val - 512, by omega⟩) (fun a ha => ?_) ?_
    · match a, ha with
      | ⟨0, _⟩, _ => rfl
      | ⟨1, _⟩, _ => rfl
      | ⟨2, _⟩, ha => exact absurd rfl ha
    · show k.val - 512 + 512 = k.val
      omega

/-- The residual row after the out-projection. -/
theorem res_at (b : Fin 16) (s : Fin 2048) (d : Fin 1024) :
    val_main_v4 (F := Ideal) A.x A.attn A.mem A.wo (ix3 b s d) = A.res b s d := by
  rw [val_main_v4_apply, val_main_v3_apply]
  refine congrArg (A.x (ix3 b s d) + ·) (Finset.sum_congr rfl fun k _ => ?_)
  rw [ix3_of (lidx_main_v3 (ix3 b s d) k) b s k rfl rfl rfl, mix_at, val_main_v2_apply]
  exact congrArg (A.mix b s k * A.wo ·) (ix3_of _ _ _ _ rfl (split_hi k.isLt d.isLt) (split_lo d.isLt))

/-- The scale of the first norm. -/
theorem scale1_at (b : Fin 16) (s : Fin 2048) (z : Fin 1) :
    val_main_v13 (F := Ideal) A.x A.attn A.mem A.wo (ix3 b s z) = scale (A.res b s) := by
  rw [val_main_v13_apply, val_main_v12_apply, val_main_v10_apply, val_main_v8_apply, val_main_v7_apply,
    val_main_v9_apply, val_main_v11_apply, val_main_cst_apply, val_main_cst_0_apply, val_main_cst_1_apply, zero_word,
    zero_add]
  show Ideal.rsqrt (Ideal.div _ len + eps) = _
  rw [div_len]
  refine congrArg (fun t => Ideal.rsqrt (t * invLen + eps)) (Finset.sum_congr rfl fun k _ => ?_)
  rw [val_main_v6_apply, ix3_of (idx_main_v7 (idx_main_v8 (ix3 b s z)) k) b s k rfl rfl rfl, res_at]
  rfl

/-- The normed row. -/
theorem normed_at (b : Fin 16) (s : Fin 2048) (d : Fin 1024) :
    val_main_v18 (F := Ideal) A.x A.attn A.mem A.wo A.g2 (ix3 b s d) = A.normed b s d := by
  rw [val_main_v18_apply, val_main_v15_apply, val_main_v14_apply, val_main_v17_apply, val_main_v16_apply,
    val_main_v5_apply, ix3_of (idx_main_v14 (ix3 b s d)) b s 0 rfl rfl rfl, scale1_at, res_at]
  exact congrArg (A.res b s d * scale (A.res b s) * A.g2 ·) (ix2_of _ 0 d rfl (Nat.mod_eq_of_lt d.isLt))

/-- The gate product of one token and column. -/
theorem gate_at (b : Fin 16) (s : Fin 2048) (j : Fin 2816) :
    val_main_v24 (F := Ideal) A.x A.attn A.mem A.wo A.g2 A.wg (ix3 b s j) = dot (A.normed b s) fun k => A.wg (ix3 0 k j) := by
  rw [val_main_v24_apply]
  refine Finset.sum_congr rfl fun k _ => ?_
  rw [ix3_of (lidx_main_v24 (ix3 b s j) k) b s k rfl rfl rfl, normed_at, val_main_v19_apply]
  exact congrArg (A.normed b s k * A.wg ·) (ix3_of _ 0 k j rfl (split_hi k.isLt j.isLt) (split_lo j.isLt))

/-- The padded gate products: zeros before the first token and after the last. -/
theorem padded_at (b : Fin 16) (n : Fin 2050) (j : Fin 2816) :
    val_main_v25 (F := Ideal) A.x A.attn A.mem A.wo A.g2 A.wg (ix3 b n j) = dot (A.padded b n.val) fun k => A.wg (ix3 0 k j) := by
  unfold val_main_v25 Arrays.padded
  by_cases h : 1 ≤ n.val ∧ n.val ≤ 2048
  · rw [dif_pos h, pad_apply_of_inside _ _ _ _ _ _ _ _ (ix3 b ⟨n.val - 1, by omega⟩ j) fun a => ?_, gate_at]
    match a with
    | ⟨0, _⟩ => show b.val = 0 + b.val * (0 + 1); omega
    | ⟨1, _⟩ => show n.val = 1 + (n.val - 1) * (0 + 1); omega
    | ⟨2, _⟩ => show j.val = 0 + j.val * (0 + 1); omega
  · rw [dif_neg h, pad_apply_of_not_inside _ _ _ _ _ _ _ _ (1 : Fin 3) ?_, dot_zero, val_main_call0_v0_apply,
      val_main_c_apply]
    · show ((((0#32 : BitVec 32).toInt : ℝ)) : EReal) = 0
      simp
    · show ¬(1 ≤ n.val ∧ (n.val - 1) % (0 + 1) = 0 ∧ (n.val - 1) / (0 + 1) < 2048)
      omega

/-- The convolved gate of one token and column. -/
theorem conv_at (b : Fin 16) (s : Fin 2048) (j : Fin 2816) :
    val_main_v48 (F := Ideal) A.x A.attn A.mem A.wo A.g2 A.wg A.cw A.cb (ix3 b s j)
      = conv (dot (A.padded b s.val) fun k => A.wg (ix3 0 k j)) (dot (A.padded b (s.val + 1)) fun k => A.wg (ix3 0 k j))
        (dot (A.padded b (s.val + 2)) fun k => A.wg (ix3 0 k j)) (A.cw (ix3 0 0 j)) (A.cw (ix3 0 1 j)) (A.cw (ix3 0 2 j))
        (A.cb (ix2 0 j)) := by
  rw [val_main_v48_apply, val_main_v45_apply, val_main_v38_apply, val_main_v31_apply, val_main_v37_apply,
    val_main_v44_apply, val_main_v26_apply, val_main_v32_apply, val_main_v39_apply,
    ix3_of (idx_main_v26 (ix3 b s j)) b ⟨s.val, by omega⟩ j rfl rfl rfl,
    ix3_of (idx_main_v32 (ix3 b s j)) b ⟨s.val + 1, by omega⟩ j rfl (Nat.add_comm _ _) rfl,
    ix3_of (idx_main_v39 (ix3 b s j)) b ⟨s.val + 2, by omega⟩ j rfl (Nat.add_comm _ _) rfl,
    padded_at, padded_at, padded_at,
    val_main_v30_apply, val_main_v29_apply, val_main_v28_apply, val_main_v27_apply, val_main_v20_apply,
    val_main_v36_apply, val_main_v35_apply, val_main_v34_apply, val_main_v33_apply, val_main_v20_apply,
    val_main_v43_apply, val_main_v42_apply, val_main_v41_apply, val_main_v40_apply, val_main_v20_apply,
    val_main_v47_apply, val_main_v46_apply, val_main_v21_apply]
  have hj := j.isLt
  have e0 : idx_main_v20 (idx_main_v27 (idx_main_v28 (idx_main_v29 (idx_main_v30 (ix3 b s j))))) = ix3 0 0 j :=
    ix3_of _ 0 0 j rfl (by show (0 * 2816 + j.val % 2816) / 2816 % 3 = 0; omega)
      (by show (0 * 2816 + j.val % 2816) % 2816 = j.val; omega)
  have e1 : idx_main_v20 (idx_main_v33 (idx_main_v34 (idx_main_v35 (idx_main_v36 (ix3 b s j))))) = ix3 0 1 j :=
    ix3_of _ 0 1 j rfl (by show ((1 + 0) * 2816 + j.val % 2816) / 2816 % 3 = 1; omega)
      (by show ((1 + 0) * 2816 + j.val % 2816) % 2816 = j.val; omega)
  have e2 : idx_main_v20 (idx_main_v40 (idx_main_v41 (idx_main_v42 (idx_main_v43 (ix3 b s j))))) = ix3 0 2 j :=
    ix3_of _ 0 2 j rfl (by show ((2 + 0) * 2816 + j.val % 2816) / 2816 % 3 = 2; omega)
      (by show ((2 + 0) * 2816 + j.val % 2816) % 2816 = j.val; omega)
  have e3 : idx_main_v21 (idx_main_v46 (idx_main_v47 (ix3 b s j))) = ix2 0 j :=
    ix2_of _ 0 j rfl (Nat.mod_eq_of_lt hj)
  rw [e0, e1, e2, e3]
  rfl

/-- The gated activation of one token and column. -/
theorem act_at (b : Fin 16) (s : Fin 2048) (j : Fin 2816) :
    val_main_v57 (F := Ideal) A.x A.attn A.mem A.wo A.g2 A.wg A.cw A.cb A.wu (ix3 b s j) = A.acts b s j := by
  rw [val_main_v57_apply, val_main_v55_apply, val_main_v50_apply, val_main_v49_apply, val_main_cst_2_apply,
    val_main_v54_apply, val_main_v53_apply, val_main_v51_apply, val_main_v52_apply, val_main_cst_3_apply, conv_at,
    val_main_v56_apply]
  unfold Arrays.acts act
  rw [← gelu_erfc]
  refine congrArg (_ * ·) (Finset.sum_congr rfl fun k _ => ?_)
  rw [ix3_of (lidx_main_v56 (ix3 b s j) k) b s k rfl rfl rfl, normed_at, val_main_v22_apply, A.padded_self]
  exact congrArg (A.normed b s k * A.wu ·) (ix3_of _ 0 k j rfl (split_hi k.isLt j.isLt) (split_lo j.isLt))

/-- The row after the feed-forward block. -/
theorem ffn_at (b : Fin 16) (s : Fin 2048) (d : Fin 1024) :
    val_main_v59 (F := Ideal) A.x A.attn A.mem A.wo A.g2 A.wg A.cw A.cb A.wu A.wd (ix3 b s d) = A.ffn b s d := by
  rw [val_main_v59_apply, res_at, val_main_v58_apply]
  refine congrArg (A.res b s d + ·) (Finset.sum_congr rfl fun j _ => ?_)
  rw [ix3_of (lidx_main_v58 (ix3 b s d) j) b s j rfl rfl rfl, act_at, val_main_v23_apply]
  exact congrArg (A.acts b s j * A.wd ·) (ix3_of _ 0 j d rfl (split_hi j.isLt d.isLt) (split_lo d.isLt))

/-- The scale of the norm before the embedding gate. -/
theorem scale2_at (b : Fin 16) (s : Fin 2048) (z : Fin 1) :
    val_main_v68 (F := Ideal) A.x A.attn A.mem A.wo A.g2 A.wg A.cw A.cb A.wu A.wd (ix3 b s z) = scale (A.ffn b s) := by
  rw [val_main_v68_apply, val_main_v67_apply, val_main_v65_apply, val_main_v63_apply, val_main_v62_apply,
    val_main_v64_apply, val_main_v66_apply, val_main_cst_4_apply, val_main_cst_5_apply, val_main_cst_6_apply, zero_word,
    zero_add]
  show Ideal.rsqrt (Ideal.div _ len + eps) = _
  rw [div_len]
  refine congrArg (fun t => Ideal.rsqrt (t * invLen + eps)) (Finset.sum_congr rfl fun k _ => ?_)
  rw [val_main_v61_apply, ix3_of (idx_main_v62 (idx_main_v63 (ix3 b s z)) k) b s k rfl rfl rfl, ffn_at]
  rfl

/-- The normed row before the embedding gate. -/
theorem pleNorm_at (b : Fin 16) (s : Fin 2048) (d : Fin 1024) :
    val_main_v73 (F := Ideal) A.x A.attn A.mem A.wo A.g2 A.wg A.cw A.cb A.wu A.wd A.gp (ix3 b s d)
      = norm (A.ffn b s) (fun d => A.gp (ix2 0 d)) d := by
  rw [val_main_v73_apply, val_main_v70_apply, val_main_v69_apply, val_main_v72_apply, val_main_v71_apply,
    val_main_v60_apply, ix3_of (idx_main_v69 (ix3 b s d)) b s 0 rfl rfl rfl, scale2_at, ffn_at]
  exact congrArg (A.ffn b s d * scale (A.ffn b s) * A.gp ·) (ix2_of _ 0 d rfl (Nat.mod_eq_of_lt d.isLt))

/-- The embedding gate. -/
theorem gateP_at (b : Fin 16) (s : Fin 2048) (d : Fin 1024) :
    val_main_v88 (F := Ideal) A.x A.attn A.mem A.wo A.g2 A.wg A.cw A.cb A.wu A.wd A.gp A.wpg A.bpg (ix3 b s d)
      = Ideal.logistic (gatePre (A.ffn b s) (fun d => A.gp (ix2 0 d)) (fun k d => A.wpg (ix3 0 k d)) d + A.bpg (ix2 0 d)) := by
  rw [val_main_v88_apply, val_main_v87_apply, val_main_cst_8_apply, val_main_v86_apply, val_main_v85_apply,
    val_main_cst_7_apply, val_main_v84_apply, val_main_v83_apply, val_main_v82_apply, val_main_v81_apply,
    val_main_v80_apply, val_main_v79_apply, val_main_v78_apply]
  have e : idx_main_v79 (idx_main_v80 (idx_main_v81 (ix3 b s d))) = ix2 0 d :=
    ix2_of _ 0 d rfl (Nat.mod_eq_of_lt d.isLt)
  rw [e]
  have hs : (∑ k : Fin 1024, val_main_v73 (F := Ideal) A.x A.attn A.mem A.wo A.g2 A.wg A.cw A.cb A.wu A.wd A.gp (lidx_main_v78 (ix3 b s d) k)
      * val_main_v77 (F := Ideal) A.wpg (ridx_main_v78 (ix3 b s d) k))
      = gatePre (A.ffn b s) (fun d => A.gp (ix2 0 d)) (fun k d => A.wpg (ix3 0 k d)) d := by
    refine Finset.sum_congr rfl fun k _ => ?_
    rw [ix3_of (lidx_main_v78 (ix3 b s d) k) b s k rfl rfl rfl, pleNorm_at, val_main_v77_apply]
    exact congrArg (norm (A.ffn b s) (fun d => A.gp (ix2 0 d)) k * A.wpg ·)
      (ix3_of _ 0 k d rfl (split_hi k.isLt d.isLt) (split_lo d.isLt))
  rw [hs]
  show Ideal.div one (one + Ideal.exp (-_)) = _
  rw [one_eq]
  rfl

/-- The embedding's own product. -/
theorem emb_at (b : Fin 16) (s : Fin 2048) (d : Fin 1024) :
    val_main_v76 (F := Ideal) A.p A.wpp (ix3 b s d) = ∑ k : Fin 256, A.p (ix4 0 b s k) * A.wpp (ix3 0 k d) := by
  rw [val_main_v76_apply]
  refine Finset.sum_congr rfl fun k _ => ?_
  rw [val_main_v74_apply, val_main_v75_apply]
  have hb := b.isLt
  have hs := s.isLt
  have hk := k.isLt
  have e : idx_main_v74 (lidx_main_v76 (ix3 b s d) k) = ix4 0 b s k :=
    ix4_of _ 0 b s k rfl (by show ((b.val * 2048 + s.val) * 256 + k.val) / 524288 % 16 = b.val; omega)
      (by show ((b.val * 2048 + s.val) * 256 + k.val) / 256 % 2048 = s.val; omega)
      (by show ((b.val * 2048 + s.val) * 256 + k.val) % 256 = k.val; omega)
  rw [e]
  exact congrArg (A.p (ix4 0 b s k) * A.wpp ·) (ix3_of _ 0 k d rfl (split_hi k.isLt d.isLt) (split_lo d.isLt))

/-- The row with its embedding gated in. -/
theorem ple_at (b : Fin 16) (s : Fin 2048) (d : Fin 1024) :
    val_main_v90 (F := Ideal) A.x A.attn A.mem A.p A.wo A.g2 A.wg A.cw A.cb A.wu A.wd A.gp A.wpg A.bpg A.wpp (ix3 b s d) = A.ple b s d := by
  rw [val_main_v90_apply, val_main_v89_apply, ffn_at, emb_at, gateP_at]
  rfl

/-- The scale of the last norm. -/
theorem scale3_at (b : Fin 16) (s : Fin 2048) (z : Fin 1) :
    val_main_v98 (F := Ideal) A.x A.attn A.mem A.p A.wo A.g2 A.wg A.cw A.cb A.wu A.wd A.gp A.wpg A.bpg A.wpp (ix3 b s z) = scale (A.ple b s) := by
  rw [val_main_v98_apply, val_main_v97_apply, val_main_v95_apply, val_main_v93_apply, val_main_v92_apply,
    val_main_v94_apply, val_main_v96_apply, val_main_cst_9_apply, val_main_cst_10_apply, val_main_cst_11_apply,
    zero_word, zero_add]
  show Ideal.rsqrt (Ideal.div _ len + eps) = _
  rw [div_len]
  refine congrArg (fun t => Ideal.rsqrt (t * invLen + eps)) (Finset.sum_congr rfl fun k _ => ?_)
  rw [val_main_v91_apply, ix3_of (idx_main_v92 (idx_main_v93 (ix3 b s z)) k) b s k rfl rfl rfl, ple_at]
  rfl

/-- The result of one token before its two leading axes are joined. -/
theorem out_at (b : Fin 16) (s : Fin 2048) (d : Fin 1024) :
    val_main_v103 (F := Ideal) A.x A.attn A.mem A.p A.wo A.g2 A.wg A.cw A.cb A.wu A.wd A.gp A.wpg A.bpg A.wpp A.gf (ix3 b s d) = A.out b s d := by
  rw [val_main_v103_apply, val_main_v100_apply, val_main_v99_apply, val_main_v102_apply, val_main_v101_apply,
    ix3_of (idx_main_v99 (ix3 b s d)) b s 0 rfl rfl rfl, scale3_at, ple_at]
  exact congrArg (A.ple b s d * scale (A.ple b s) * A.gf ·) ((eq_ix1 _).trans rfl)

/-- The result array: row `n` is token `n % 2048` of sequence `n / 2048`. -/
theorem result_at (n : Fin 32768) (d : Fin 1024) :
    val_main_v104 (F := Ideal) A.x A.attn A.mem A.p A.wo A.g2 A.wg A.cw A.cb A.wu A.wd A.gp A.wpg A.bpg A.wpp A.gf (ix2 n d)
      = A.out ⟨n.val / 2048, by omega⟩ ⟨n.val % 2048, by omega⟩ d := by
  have hn := n.isLt
  have hd := d.isLt
  rw [val_main_v104_apply, ix3_of (idx_main_v104 (ix2 n d)) ⟨n.val / 2048, by omega⟩ ⟨n.val % 2048, by omega⟩ d
    (by show (n.val * 1024 + d.val) / 2097152 = n.val / 2048; omega)
    (by show (n.val * 1024 + d.val) / 1024 % 2048 = n.val % 2048; omega)
    (by show (n.val * 1024 + d.val) % 1024 = d.val; omega), out_at]

end Cert.FfnRefIdeal.Math

end
-- ==== Proof.InprojBits.lean ====
/- The program over the machine's floats runs as its idealized copy does: the two printed texts are the same
   functions, so the run proved over any floats is carried from one to the other. -/
module

public import proofs.«01_k».proof.Defs
public import proofs.«01_k».proof.Proof.Gen.Inproj.Launch
public import proofs.«01_k».proof.Proof.Gen.InprojIdeal.Frame

@[expose] public section

set_option maxRecDepth 100000

noncomputable section

namespace Cert.Inproj.Tile

open Idealize.ShloMosaic Idealize.ShloMosaic.TcCoe

variable {F : FTy → Type} [FloatOps F]

set_option maxHeartbeats 4000000 in
/-- The kernel's body is the same function in both printed programs. -/
theorem kernel_eq : Cert.Inproj.cc0_inproj (F := F) = Cert.InprojIdeal.cc0_inproj (F := F) := rfl

set_option maxHeartbeats 4000000 in
/-- The host program is the same in both. -/
theorem main_eq : Cert.Inproj.main (F := F) = Cert.InprojIdeal.main (F := F) := rfl

set_option maxHeartbeats 4000000 in
/-- The table of kernel bodies is the same in both. -/
theorem bodies_eq : Cert.Inproj.defs₀ (F := F) = Cert.InprojIdeal.defs₀ (F := F) := by
  unfold Cert.Inproj.defs₀ Cert.InprojIdeal.defs₀
  refine congrArg Defs.onTc (funext fun l => funext fun x => ?_)
  match l, x with
  | ⟨0, _⟩, (t, s) => dsimp only; rw [kernel_eq]; rfl

set_option maxHeartbeats 4000000 in
/-- The table of all procedures is the same in both. -/
theorem procs_eq : Cert.Inproj.defs (F := F) = Cert.InprojIdeal.defs (F := F) := by
  unfold Cert.Inproj.defs Cert.InprojIdeal.defs
  rw [bodies_eq]
  rfl

set_option maxHeartbeats 4000000 in
/-- The program over the machine's floats terminates with its arguments unchanged and every counter at zero. -/
theorem quiet : Cert.quiescent_Inproj := by
  intro m g _
  have h := Cert.InprojIdeal.Gen.frame (F := Bits) m g
  rw [← procs_eq, ← main_eq] at h
  exact h

end Cert.Inproj.Tile

end
-- ==== Proof.InprojLayer.lean ====
/- The opening block of the layer over whole arrays: the norm of every token, its product with the in-projection, the
   rotary turn of queries and keys, the convolution of the memory's key input, and the seven arrays the block hands on.
   The program and its reference are both proved to compute these arrays. -/
module

public import proofs.«01_k».proof.Proof.FfnLayer

@[expose] public section

noncomputable section

namespace Cert.Spec

open Idealize.ShloMosaic Idealize.ShloMosaic.ValueIdx

/-- The base of the rotary frequencies. -/
def ropeBase : EReal := Ideal.ofBits .f32 0x48F42400#32
/-- The number zero. -/
def zeroW : EReal := Ideal.ofBits .f32 0x00000000#32
/-- The number two. -/
def two : EReal := Ideal.ofBits .f32 0x40000000#32
/-- The number of rotated lanes of a head. -/
def ropeLen : EReal := Ideal.ofBits .f32 0x41800000#32
/-- One over the root of the head's width. -/
def eighth : EReal := Ideal.ofBits .f32 0x3E000000#32
/-- The factor from natural to binary exponents. -/
def logTwoE : EReal := Ideal.ofBits .f32 0x3FB8AA3B#32
/-- One over the root of the head's width, times the factor from natural to binary exponents. -/
def queryScale : EReal := Ideal.ofBits .f32 0x3E38AA3B#32

/-- The rotary frequency of the pair of lanes `i` and `i + 8`. -/
def invFreq (i : ℕ) : EReal := Ideal.pow ropeBase (Ideal.div (-(zeroW + two * ((i : ℝ) : EReal))) ropeLen)

/-- The rotary angle of a position and a pair of lanes. -/
def angle (p : BitVec 32) (i : ℕ) : EReal := ((p.toInt : ℝ) : EReal) * invFreq i

/-- The rotary turn: in every head of 64 lanes the first eight lanes turn with the next eight, the rest stay. -/
def rotary (p : BitVec 32) (z : ℕ → EReal) (n : ℕ) : EReal :=
  if n % 64 < 8 then z n * Ideal.cos (angle p (n % 64)) - z (n + 8) * Ideal.sin (angle p (n % 64))
  else if n % 64 < 16 then z n * Ideal.cos (angle p (n % 64 - 8)) + z (n - 8) * Ideal.sin (angle p (n % 64 - 8))
  else z n

/-- A number times its logistic. -/
def silu (a : EReal) : EReal := a * Ideal.logistic a

/-- The argument arrays. -/
structure InArrays where
  x : (⟨3, ![16, 2048, 1024]⟩ : Shape).Idx → EReal
  pos : (⟨2, ![16, 2048]⟩ : Shape).Idx → BitVec 32
  g : (⟨2, ![1, 1024]⟩ : Shape).Idx → EReal
  w : (⟨3, ![1, 1024, 3088]⟩ : Shape).Idx → EReal
  cw : (⟨3, ![1, 3, 512]⟩ : Shape).Idx → EReal
  cb : (⟨2, ![1, 512]⟩ : Shape).Idx → EReal

variable (A : InArrays)

/-- The normed row of one token. -/
def InArrays.normed (b : Fin 16) (s : Fin 2048) : Row 1024 := norm (fun d => A.x (ix3 b s d)) fun d => A.g (ix2 0 d)

/-- The in-projection of one token, zero past its last column. -/
def InArrays.z (b : Fin 16) (s : Fin 2048) (n : ℕ) : EReal :=
  if h : n < 3088 then dot (A.normed b s) fun k => A.w (ix3 0 k ⟨n, h⟩) else 0

/-- The in-projection of a sequence with zeros before the first token and after the last. -/
def InArrays.zPad (b : Fin 16) (n : ℕ) (c : ℕ) : EReal :=
  if h : 1 ≤ n ∧ n ≤ 2048 then A.z b ⟨n - 1, by omega⟩ c else 0

/-- A query. -/
def InArrays.q (b : Fin 16) (s : Fin 2048) (n : ℕ) : EReal := rotary (A.pos (ix2 b s)) (A.z b s) n * eighth * logTwoE

/-- A key. -/
def InArrays.k (b : Fin 16) (s : Fin 2048) (n : ℕ) : EReal :=
  rotary (A.pos (ix2 b s)) (fun j => A.z b s (512 + j)) n

/-- The memory's convolved key input. -/
def InArrays.uc (b : Fin 16) (s : Fin 2048) (c : Fin 512) : EReal :=
  silu (conv (A.zPad b s.val (1536 + c.val)) (A.zPad b (s.val + 1) (1536 + c.val)) (A.zPad b (s.val + 2) (1536 + c.val))
    (A.cw (ix3 0 0 c)) (A.cw (ix3 0 1 c)) (A.cw (ix3 0 2 c)) (A.cb (ix2 0 c)))

/-- The sequence of a row of the joined token axis. -/
def rowSeq (n : Fin 32768) : Fin 16 := ⟨n.val / 2048, by omega⟩
/-- The position of a row of the joined token axis in its sequence. -/
def rowPos (n : Fin 32768) : Fin 2048 := ⟨n.val % 2048, by omega⟩

/-- The queries: sequence, pair of heads, token, lane. -/
def InArrays.qOut : (⟨4, ![16, 4, 2048, 128]⟩ : Shape).Idx → EReal := fun y => A.q (y 0) (y 2) (128 * (y 1).val + (y 3).val)
/-- The keys, laid out like the queries. -/
def InArrays.kOut : (⟨4, ![16, 4, 2048, 128]⟩ : Shape).Idx → EReal := fun y => A.k (y 0) (y 2) (128 * (y 1).val + (y 3).val)
/-- The values, laid out like the queries. -/
def InArrays.vOut : (⟨4, ![16, 4, 2048, 128]⟩ : Shape).Idx → EReal :=
  fun y => A.z (y 0) (y 2) (1024 + (128 * (y 1).val + (y 3).val))
/-- The memory's convolved key input, one row per token. -/
def InArrays.ucOut : (⟨2, ![32768, 512]⟩ : Shape).Idx → EReal := fun y => A.uc (rowSeq (y 0)) (rowPos (y 0)) (y 1)
/-- The memory's values, one row per token. -/
def InArrays.vmOut : (⟨2, ![32768, 512]⟩ : Shape).Idx → EReal :=
  fun y => A.z (rowSeq (y 0)) (rowPos (y 0)) (2048 + (y 1).val)
/-- The memory's output gates, one row per token. -/
def InArrays.ogOut : (⟨2, ![32768, 512]⟩ : Shape).Idx → EReal :=
  fun y => Ideal.logistic (A.z (rowSeq (y 0)) (rowPos (y 0)) (2560 + (y 1).val))
/-- The memory's input and forget gates before their activations, one column per token. -/
def InArrays.gateOut : (⟨2, ![16, 32768]⟩ : Shape).Idx → EReal :=
  fun y => A.z (rowSeq (y 1)) (rowPos (y 1)) (3072 + (y 0).val)

/-- The row of the padded sequence one past a token's own position is the token's. -/
theorem InArrays.zPad_self (b : Fin 16) (s : Fin 2048) (c : ℕ) : A.zPad b (s.val + 1) c = A.z b s c := by
  unfold InArrays.zPad
  rw [dif_pos ⟨by omega, by have := s.isLt; omega⟩]
  rfl

/-- The scale taken out of a matrix product gives the same number as the scale applied to the row. -/
theorem dot_scaled (v g w : Row 1024) : (∑ k, v k * g k * w k) * scale v = dot (norm v g) w := by
  rw [sum_mul_real _ _ _ (scale_real v).1 (scale_real v).2]
  refine Finset.sum_congr rfl fun k _ => ?_
  unfold norm
  rw [mul_right_comm, mul_right_comm (v k) (g k)]

/-- The one factor on queries is the product of the two. -/
theorem queryScale_eq : eighth * logTwoE = queryScale := by
  simp [eighth, logTwoE, queryScale, Ideal.ofBits, Ideal.ieee, -EReal.coe_mul]
  rw [← EReal.coe_mul]
  norm_num

/-- A rotary frequency is a real number. -/
theorem invFreq_real (i : ℕ) : ∃ r : ℝ, invFreq i = (r : EReal) := by
  have h0 : ropeBase = ((500000 : ℝ) : EReal) := by
    simp [ropeBase, Ideal.ofBits, Ideal.ieee, -EReal.coe_mul]; norm_num
  have h1 : zeroW = ((0 : ℝ) : EReal) := Ideal.ofBits_zero_f32
  have h2 : two = ((2 : ℝ) : EReal) := by
    simp [two, Ideal.ofBits, Ideal.ieee, -EReal.coe_mul]; norm_num
  have h3 : ropeLen = ((16 : ℝ) : EReal) := by
    simp [ropeLen, Ideal.ofBits, Ideal.ieee, -EReal.coe_mul]; norm_num
  refine ⟨Real.rpow 500000 (-(0 + 2 * (i : ℝ)) * (1 / 16)), ?_⟩
  unfold invFreq
  rw [h0, h1, h2, h3, ← EReal.coe_mul, ← EReal.coe_add, ← EReal.coe_neg, Ideal.div_coe (by norm_num), ← EReal.coe_mul,
    Ideal.pow_coe_coe]

/-- A rotary angle is a real number. -/
theorem angle_real (p : BitVec 32) (i : ℕ) : ∃ r : ℝ, angle p i = (r : EReal) := by
  obtain ⟨r, hr⟩ := invFreq_real i
  exact ⟨p.toInt * r, by unfold angle; rw [hr, EReal.coe_mul]⟩

/-- The cosine of a rotary angle is a real number. -/
theorem cos_real (p : BitVec 32) (i : ℕ) : ∃ r : ℝ, Ideal.cos (angle p i) = (r : EReal) := by
  obtain ⟨r, hr⟩ := angle_real p i
  exact ⟨Real.cos r, by rw [hr]; rfl⟩

/-- The sine of a rotary angle is a real number. -/
theorem sin_real (p : BitVec 32) (i : ℕ) : ∃ r : ℝ, Ideal.sin (angle p i) = (r : EReal) := by
  obtain ⟨r, hr⟩ := angle_real p i
  exact ⟨Real.sin r, by rw [hr]; rfl⟩

end Cert.Spec

end
-- ==== Proof.InprojTile.lean ====
/- One tile of the opening block's kernel as mathematics over its blocks, and the values the body computes read at a row
   and a column. Row `q` of the widened tile is the halo before for `q < 16`, the tile for `16 ≤ q < 1040`, the halo
   after from there. -/
module

public import proofs.«01_k».proof.Proof.InprojLayer
public import proofs.«01_k».proof.Proof.FfnTile
public import proofs.«01_k».proof.Proof.Gen.InprojIdeal.Skeleton
public import Idealize.ShloMosaic.Lib.Pointwise
public import Idealize.ShloMosaic.Lib.ValueLayout

@[expose] public section

noncomputable section

namespace Cert.InprojIdeal.Tile

open Cert.InprojIdeal Cert.InprojIdeal.Gen Cert.Spec Cert.Ops
open Cert.FfnIdeal.Tile (widen widen_prev widen_own widen_next widen_cases)
open Idealize.ShloMosaic hiding ix1 ix2 ix3 ix4
open Idealize.ShloMosaic.ValueIdx

/-- The blocks one run of the body reads. -/
structure Blocks where
  x : Vec Ideal S1024x1024 .f32
  xPrev : Vec Ideal S16x1024 .f32
  xNext : Vec Ideal S16x1024 .f32
  pos : Vec Ideal S1x1x1024 .i32
  g : Vec Ideal S1x1024 .f32
  invc : Vec Ideal S16x1 .f32
  sel : Vec Ideal S16x256 .bf16
  unrot : Vec Ideal S1x128 .f32
  w : Vec Ideal S1024x3200 .bf16
  cw : Vec Ideal S3x512 .f32
  cb : Vec Ideal S1x512 .f32

/-- The entries of the matrix that spreads sixteen cosines and sines over the lanes of two heads: the cosine of pair `j`
    goes to lanes `j` and `j + 8` of a head, its sine to the same lanes with the sign of the turn. -/
def selAt (j c : ℕ) : EReal :=
  if c < 128 then (if c % 64 < 16 ∧ j = c % 8 then 1 else 0)
  else if c % 64 < 8 ∧ j = 8 + c % 8 then -1 else if 8 ≤ c % 64 ∧ c % 64 < 16 ∧ j = 8 + c % 8 then 1 else 0

/-- The constant blocks hold the rotary tables. -/
structure Blocks.Tables (B : Blocks) : Prop where
  invc : ∀ j : Fin 16, B.invc (ix2 j 0) = invFreq (j.val % 8)
  sel : ∀ (j : Fin 16) (c : Fin 256), B.sel (ix2 j c) = selAt j.val c.val
  unrot : ∀ l : Fin 128, B.unrot (ix2 0 l) = if l.val % 64 < 16 then 0 else 1

variable (B : Blocks)

/-- The position of a row of the tile. -/
def Blocks.p (r : Fin 1024) : BitVec 32 := B.pos (ix3 0 0 r)

/-- A row of the widened tile. -/
def Blocks.row (q : Fin 1056) : Row 1024 :=
  widen (fun r d => B.xPrev (ix2 r d)) (fun r d => B.x (ix2 r d)) (fun r d => B.xNext (ix2 r d)) q

/-- The in-projection of a normed row, zero past its last column. -/
def Blocks.zOf (v : Row 1024) (n : ℕ) : EReal :=
  if h : n < 3200 then dot (norm v fun d => B.g (ix2 0 d)) fun k => B.w (ix2 k ⟨n, h⟩) else 0

/-- The in-projection of a row of the tile. -/
def Blocks.z (r : Fin 1024) (n : ℕ) : EReal := B.zOf (fun d => B.x (ix2 r d)) n

/-- The memory's key input on the widened tile, zeroed in the halo before when `first` holds and in the halo after when
    `last` holds. -/
def Blocks.uPad (first last : BitVec 1) (q : Fin 1056) (c : ℕ) : EReal :=
  if (q.val < 16 ∧ first = 1) ∨ (1040 ≤ q.val ∧ last = 1) then 0 else B.zOf (B.row q) (1536 + c)

/-- The memory's convolved key input of a row of the tile. -/
def Blocks.uc (first last : BitVec 1) (r : Fin 1024) (c : Fin 512) : EReal :=
  silu (conv (B.uPad first last ⟨r.val + 15, by omega⟩ c.val) (B.uPad first last ⟨r.val + 16, by omega⟩ c.val)
    (B.uPad first last ⟨r.val + 17, by omega⟩ c.val) (B.cw (ix2 0 c)) (B.cw (ix2 1 c)) (B.cw (ix2 2 c)) (B.cb (ix2 0 c)))

/-! ## The rotary tables -/

/-- A row of the table of cosines and sines. -/
def Blocks.tab (j : Fin 16) (r : Fin 1024) : EReal :=
  if j.val < 8 then Ideal.cos (angle (B.p r) (j.val % 8)) else Ideal.sin (angle (B.p r) (j.val % 8))

/-- The first eight rows of the table are those whose number is below eight. -/
theorem low_rows : ∀ j : Fin 16, IntOp.cmpi .slt (BitVec.ofNat 32 j.val) 8#32 = if j.val < 8 then 1#1 else 0#1 := by
  decide +kernel

/-- The table of cosines and sines. -/
theorem tab_at (hT : B.Tables) (j : Fin 16) (r : Fin 1024) : k0_pay2 (F := Ideal) B.invc B.pos (ix2 j r) = B.tab j r := by
  unfold k0_pay2 Blocks.tab
  dsimp only
  have ha : (mulf (broadcastTo S16x1024 (shapeCast S16x1 B.invc shapeCasts_S16x1_S16x1) broadcasts_S16x1_S16x1024)
      (broadcastTo S16x1024 (sitofp .f32 (shapeCast S1x1024 B.pos shapeCasts_S1x1x1024_S1x1024)) broadcasts_S1x1024_S16x1024)
      : FVec Ideal S16x1024 .f32) (ix2 j r) = angle (B.p r) (j.val % 8) := by
    rw [ValueIdx.mulf_apply, shapeCast_self, bcol_at _ _ (by decide), brow_at _ _ (by decide), sitofp_apply, hT.invc,
      shapeCast_apply _ _ (ix2 0 r) (ix3 0 0 r) (by
        rw [Shape.rowMajor_val_two, Shape.rowMajor_val_three]
        show (0 * 1 + 0) * 1024 + r.val = 0 * 1024 + r.val
        omega)]
    exact mul_comm _ _
  rw [select_apply, cmpi_apply, iota_single_apply]
  show Scalar.select (IntOp.cmpi .slt (BitVec.ofNat 32 j.val) 8#32) (Ideal.cos _) (Ideal.sin _) = _
  rw [low_rows, ha]
  by_cases h : j.val < 8
  · rw [if_pos h, if_pos h]; rfl
  · rw [if_neg h, if_neg h]; rfl

/-- Its entries are real numbers. -/
theorem tab_real (j : Fin 16) (r : Fin 1024) : ∃ t : ℝ, B.tab j r = (t : EReal) := by
  unfold Blocks.tab
  by_cases h : j.val < 8
  · rw [if_pos h]; exact cos_real _ _
  · rw [if_neg h]; exact sin_real _ _

/-- The remainder of the table after its rounding is zero: no rounding happens over the extended reals. -/
theorem rest_at (hT : B.Tables) (j : Fin 16) (r : Fin 1024) : k0_pay4 (F := Ideal) B.invc B.pos (ix2 j r) = 0 := by
  unfold k0_pay4 k0_pay3
  show k0_pay2 (F := Ideal) B.invc B.pos (ix2 j r) - k0_pay2 (F := Ideal) B.invc B.pos (ix2 j r) = 0
  rw [tab_at B hT]
  obtain ⟨t, ht⟩ := tab_real B j r
  rw [ht, ← EReal.coe_sub, sub_self, EReal.coe_zero]

/-- A product of a transposed matrix with a matrix, onto zeros. -/
theorem mmT_at (a : FVec Ideal S16x1024 .bf16) (b : FVec Ideal S16x256 .bf16) (r : Fin 1024) (c : Fin 256) :
    matmul dot_S16x1024_S16x256_S1024x256_0_0_1_1_n_n none a b (constant (F := Ideal) S1024x256 .f32 0x00000000#32) (ix2 r c)
      = ∑ j : Fin 16, a (ix2 j r) * b (ix2 j c) := by
  refine (Ideal.matmul_apply₁_of dot_S16x1024_S16x256_S1024x256_0_0_1_1_n_n (a := 0) rfl (K := 16) rfl a b _ (ix2 r c)
    (fun j => ix2 j r) (fun j => ix2 j c) (fun j => ?_) (fun j => ?_)).trans ?_
  · exact ix2_of _ j r rfl rfl
  · exact ix2_of _ j c rfl rfl
  · rw [constant_apply, Ideal.ofBits_zero_f32, zero_add]

/-- The table spread over the lanes of two heads. -/
theorem spread_at (hT : B.Tables) (r : Fin 1024) (c : Fin 256) :
    k0_pay5 (F := Ideal) (k0_pay3 B.invc B.pos) (k0_pay4 B.invc B.pos) B.sel B.sel (ix2 r c)
      = ∑ j : Fin 16, B.tab j r * selAt j.val c.val := by
  unfold k0_pay5
  rw [ValueIdx.addf_apply, ValueIdx.addf_apply]
  have h1 : ∀ b : FVec Ideal S16x256 .bf16,
      matmul dot_S16x1024_S16x256_S1024x256_0_0_1_1_n_n none (truncf .bf16 (k0_pay4 (F := Ideal) B.invc B.pos) bitsLt_bf16_f32) b
        (constant (F := Ideal) S1024x256 .f32 0x00000000#32) (ix2 r c) = 0 := by
    intro b
    rw [mmT_at]
    refine Finset.sum_eq_zero fun j _ => ?_
    show k0_pay4 (F := Ideal) B.invc B.pos (ix2 j r) * _ = 0
    rw [rest_at B hT, zero_mul]
  rw [h1, mmT_at]
  show Ideal.ofBits .f32 0x00000000#32 + _ + 0 = _
  rw [Ideal.ofBits_zero_f32, zero_add, add_zero]
  refine Finset.sum_congr rfl fun j _ => ?_
  rw [hT.sel]
  exact congrArg (· * _) (tab_at B hT j r)

/-- A sum with one entry of the spreading matrix left. -/
theorem spread_one (r : Fin 1024) (c j0 : ℕ) (hj : j0 < 16) (s : EReal) (h0 : selAt j0 c = s)
    (hne : ∀ j, j < 16 → j ≠ j0 → selAt j c = 0) : (∑ j : Fin 16, B.tab j r * selAt j.val c) = B.tab ⟨j0, hj⟩ r * s := by
  rw [Finset.sum_eq_single (⟨j0, hj⟩ : Fin 16) (fun j _ hjn => ?_) (fun h => absurd (Finset.mem_univ _) h), h0]
  rw [hne j.val j.isLt fun e => hjn (Fin.ext e), mul_zero]

/-- A sum with no entry of the spreading matrix left. -/
theorem spread_none (r : Fin 1024) (c : ℕ) (hne : ∀ j, selAt j c = 0) : (∑ j : Fin 16, B.tab j r * selAt j.val c) = 0 :=
  Finset.sum_eq_zero fun j _ => by rw [hne, mul_zero]

/-- The factor of a lane's own entry: the cosine of its pair, one on the lanes that do not turn. -/
def Blocks.C (r : Fin 1024) (l : ℕ) : EReal :=
  if l % 64 < 8 then Ideal.cos (angle (B.p r) (l % 64))
  else if l % 64 < 16 then Ideal.cos (angle (B.p r) (l % 64 - 8)) else 1

/-- The factor of the other entry of a lane's pair: the sine with the sign of the turn, zero on the lanes that do not
    turn. -/
def Blocks.S (r : Fin 1024) (l : ℕ) : EReal :=
  if l % 64 < 8 then -Ideal.sin (angle (B.p r) (l % 64))
  else if l % 64 < 16 then Ideal.sin (angle (B.p r) (l % 64 - 8)) else 0

/-- The cosine lanes. -/
theorem cosLanes_at (hT : B.Tables) (r : Fin 1024) (l : Fin 128) :
    k0_pay6 (F := Ideal) (k0_pay3 B.invc B.pos) (k0_pay4 B.invc B.pos) B.sel B.sel B.unrot (ix2 r l) = B.C r l.val := by
  have hl := l.isLt
  unfold k0_pay6 Blocks.C
  rw [ValueIdx.addf_apply, slice_at 0 0 _ _ r l r (⟨l.val, by omega⟩ : Fin 256) (Nat.zero_add _).symm (Nat.zero_add _).symm,
    brow_at _ _ (by decide), hT.unrot, spread_at B hT]
  show (∑ j : Fin 16, B.tab j r * selAt j.val l.val) + _ = _
  by_cases h16 : l.val % 64 < 16
  · rw [if_pos h16, add_zero, spread_one B r l.val (l.val % 8) (by omega) 1
      (by unfold selAt; rw [if_pos hl, if_pos ⟨h16, rfl⟩])
      (fun j _ hj => by unfold selAt; rw [if_pos hl, if_neg fun h => hj h.2]), mul_one]
    unfold Blocks.tab
    rw [if_pos (by show l.val % 8 < 8; omega)]
    by_cases h8 : l.val % 64 < 8
    · rw [if_pos h8]
      show Ideal.cos (angle _ (l.val % 8 % 8)) = _
      rw [show l.val % 8 % 8 = l.val % 64 by omega]
    · rw [if_neg h8, if_pos h16]
      show Ideal.cos (angle _ (l.val % 8 % 8)) = _
      rw [show l.val % 8 % 8 = l.val % 64 - 8 by omega]
  · rw [if_neg h16, if_neg (by omega), if_neg h16, spread_none B r l.val
      (fun j => by unfold selAt; rw [if_pos hl, if_neg fun h => h16 h.1]), zero_add]

/-- The sine lanes. -/
theorem sinLanes_at (hT : B.Tables) (r : Fin 1024) (l : Fin 128) :
    k0_pay7 (F := Ideal) (k0_pay3 B.invc B.pos) (k0_pay4 B.invc B.pos) B.sel B.sel (ix2 r l) = B.S r l.val := by
  have hl := l.isLt
  have hc : ¬ 128 + l.val < 128 := by omega
  have hm : (128 + l.val) % 64 = l.val % 64 := by omega
  have hn : (128 + l.val) % 8 = l.val % 8 := by omega
  unfold k0_pay7 Blocks.S
  rw [slice_at 0 128 _ _ r l r ⟨128 + l.val, by omega⟩ (Nat.zero_add _).symm rfl, spread_at B hT]
  show (∑ j : Fin 16, B.tab j r * selAt j.val (128 + l.val)) = _
  by_cases h8 : l.val % 64 < 8
  · rw [if_pos h8, spread_one B r (128 + l.val) (8 + l.val % 8) (by omega) (-1)
      (by unfold selAt; rw [if_neg hc, hm, hn, if_pos ⟨h8, rfl⟩])
      (fun j _ hj => by
        unfold selAt
        rw [if_neg hc, hm, hn, if_neg fun h => hj h.2, if_neg fun h => hj h.2.2])]
    unfold Blocks.tab
    rw [if_neg (by show ¬ 8 + l.val % 8 < 8; omega), mul_neg, mul_one]
    show -Ideal.sin (angle _ ((8 + l.val % 8) % 8)) = _
    rw [show (8 + l.val % 8) % 8 = l.val % 64 by omega]
  · rw [if_neg h8]
    by_cases h16 : l.val % 64 < 16
    · rw [if_pos h16, spread_one B r (128 + l.val) (8 + l.val % 8) (by omega) 1
        (by unfold selAt; rw [if_neg hc, hm, hn, if_neg fun h => h8 h.1, if_pos ⟨by omega, h16, rfl⟩])
        (fun j _ hj => by
          unfold selAt
          rw [if_neg hc, hm, hn, if_neg fun h => hj h.2, if_neg fun h => hj h.2.2]), mul_one]
      unfold Blocks.tab
      rw [if_neg (by show ¬ 8 + l.val % 8 < 8; omega)]
      show Ideal.sin (angle _ ((8 + l.val % 8) % 8)) = _
      rw [show (8 + l.val % 8) % 8 = l.val % 64 - 8 by omega]
    · rw [if_neg h16, spread_none B r (128 + l.val) (fun j => by
        unfold selAt
        rw [if_neg hc, hm, hn, if_neg fun h => h8 h.1, if_neg fun h => h16 h.2.1])]

/-! ## The in-projection -/

/-- The scale of a row of the tile. -/
theorem scale_at (r : Fin 1024) : k0_pay9 (F := Ideal) B.x (ix2 r 0) = scale fun d => B.x (ix2 r d) := by
  unfold k0_pay9 k0_pay8
  dsimp only
  rw [shapeCast_self]
  exact congrArg (fun s => Ideal.rsqrt (s * invLen + eps)) (sumCol_at (mulf B.x B.x) _ _ _ _ r 0)

/-- The scale of a row of the halo before. -/
theorem scalePrev_at (r : Fin 16) : k0_pay12 (F := Ideal) B.xPrev (ix2 r 0) = scale fun d => B.xPrev (ix2 r d) := by
  unfold k0_pay12 k0_pay11
  dsimp only
  rw [shapeCast_self]
  exact congrArg (fun s => Ideal.rsqrt (s * invLen + eps)) (sumCol_at (mulf B.xPrev B.xPrev) _ _ _ _ r 0)

/-- The scale of a row of the halo after. -/
theorem scaleNext_at (r : Fin 16) : k0_pay14 (F := Ideal) B.xNext (ix2 r 0) = scale fun d => B.xNext (ix2 r d) := by
  unfold k0_pay14 k0_pay13
  dsimp only
  rw [shapeCast_self]
  exact congrArg (fun s => Ideal.rsqrt (s * invLen + eps)) (sumCol_at (mulf B.xNext B.xNext) _ _ _ _ r 0)

/-- A row of the tile times the gain. -/
theorem gained_at (r k : Fin 1024) : k0_pay10 (F := Ideal) B.x B.g (ix2 r k) = B.x (ix2 r k) * B.g (ix2 0 k) := by
  unfold k0_pay10 k0_pay8
  dsimp only
  rw [truncf_apply, ValueIdx.mulf_apply, shapeCast_self, shapeCast_self, brow_at _ _ (by decide)]

/-- A row of the halo before times the gain. -/
theorem gainedPrev_at (r : Fin 16) (k : Fin 1024) :
    k0_pay15 (F := Ideal) (k0_pay11 B.xPrev) B.g (ix2 r k) = B.xPrev (ix2 r k) * B.g (ix2 0 k) := by
  unfold k0_pay15 k0_pay11
  dsimp only
  rw [shapeCast_self, truncf_apply, ValueIdx.mulf_apply, shapeCast_self, shapeCast_self, brow_at _ _ (by decide)]

/-- A row of the halo after times the gain. -/
theorem gainedNext_at (r : Fin 16) (k : Fin 1024) :
    k0_pay17 (F := Ideal) B.xNext B.g (ix2 r k) = B.xNext (ix2 r k) * B.g (ix2 0 k) := by
  unfold k0_pay17 k0_pay13
  dsimp only
  rw [shapeCast_self, truncf_apply, ValueIdx.mulf_apply, shapeCast_self, shapeCast_self, brow_at _ _ (by decide)]

/-- A matrix product of the gained rows, scaled, is the in-projection at the columns the loaded block holds. -/
theorem proj_at {N : ℕ} (d : DotDims ⟨2, ![1024, 1024]⟩ ⟨2, ![1024, N]⟩ ⟨2, ![1024, N]⟩) (hd : d = DotDims.plain 1024 1024 N)
    (W : FVec Ideal ⟨2, ![1024, N]⟩ .bf16) (hb : (⟨2, ![1024, 1]⟩ : Shape).Broadcasts ⟨2, ![1024, N]⟩) (r : Fin 1024)
    (c : Fin N) (n : Fin 3200) (hW : ∀ k, W (ix2 k c) = B.w (ix2 k n)) :
    (mulf (matmul d none (k0_pay10 (F := Ideal) B.x B.g) W (constant (F := Ideal) ⟨2, ![1024, N]⟩ .f32 0x00000000#32))
      (broadcastTo ⟨2, ![1024, N]⟩ (k0_pay9 (F := Ideal) B.x) hb) : FVec Ideal ⟨2, ![1024, N]⟩ .f32) (ix2 r c) = B.z r n.val := by
  rw [ValueIdx.mulf_apply, mm_at (φ := .bf16) (ψ := .bf16) d hd, bcol_at _ hb (by decide), scale_at]
  unfold Blocks.z Blocks.zOf
  rw [dif_pos n.isLt, ← dot_scaled]
  refine congrArg (· * _) (Finset.sum_congr rfl fun k _ => ?_)
  rw [gained_at, hW]

/-! ## The turn -/

/-- A rotation of the lanes at a row and a lane. -/
theorem rotLane_at {m n : ℕ} (sb : BitVec 32) (x : (⟨2, ![m, n]⟩ : Shape).Idx → EReal)
    (h : (⟨2, ![m, n]⟩ : Shape).Rotates 1 none) (r : Fin m) (c c' : Fin n)
    (hc : c'.val = (c.val + n - sb.toNat % n) % n) : dynamicRotate 1 sb none x h (ix2 r c) = x (ix2 r c') :=
  dynamicRotate_apply 1 sb x h _ _ fun b => by
    match b with
    | ⟨0, _⟩ => rfl
    | ⟨1, _⟩ => exact hc.trans (if_pos rfl).symm

/-- The mask of the lanes whose partner is eight lanes on. -/
abbrev laneMask : IVec S1x128 1 := k0_pay21 64#32 k0_pay18 k0_pay19 k0_pay20

/-- It holds on the first eight lanes of each head. -/
theorem laneMask_at : ∀ l : Fin 128, laneMask (ix2 0 l) = if l.val % 64 < 8 then 1#1 else 0#1 := by
  decide +kernel

/-- The turn as the body spells it: each lane by its cosine plus its partner by the signed sine. -/
def turn (C S : FVec Ideal S1024x128 .f32) (X : FVec Ideal S1024x128 .f32) : FVec Ideal S1024x128 .f32 :=
  addf (mulf X C) (mulf (select (broadcastTo S1024x128 (shapeCast S1x128 laneMask shapeCasts_S1x128_S1x128)
    broadcasts_S1x128_S1024x128) (dynamicRotate 1 120#32 none X rotates_S1024x128_d1)
    (dynamicRotate 1 8#32 none X rotates_S1024x128_d1)) S)

/-- A row of a mask repeated along every column. -/
theorem browMask_at (x : S1x128.Idx → BitVec 1) (h : S1x128.Broadcasts S1024x128) (r : Fin 1024) (c : Fin 128) :
    broadcastTo S1024x128 x h (ix2 r c) = x (ix2 0 c) :=
  broadcastTo_apply x h _ _ fun a => by
    match a with
    | ⟨0, _⟩ => rfl
    | ⟨1, _⟩ => rfl

/-- The turn of one pair of heads is the rotary turn of its columns. -/
theorem turn_at (C S X : FVec Ideal S1024x128 .f32) (f : ℕ → EReal) (h : ℕ) (r : Fin 1024)
    (hC : ∀ l : Fin 128, C (ix2 r l) = B.C r l.val) (hS : ∀ l : Fin 128, S (ix2 r l) = B.S r l.val)
    (hX : ∀ l : Fin 128, X (ix2 r l) = f (128 * h + l.val)) (l : Fin 128) :
    turn C S X (ix2 r l) = rotary (B.p r) f (128 * h + l.val) := by
  have hl := l.isLt
  have hm : (128 * h + l.val) % 64 = l.val % 64 := by omega
  unfold turn rotary
  rw [ValueIdx.addf_apply, ValueIdx.mulf_apply, ValueIdx.mulf_apply, select_apply, browMask_at, shapeCast_self, laneMask_at, hC, hS, hX, hm]
  unfold Blocks.C Blocks.S
  by_cases h8 : l.val % 64 < 8
  · rw [if_pos h8, if_pos h8, if_pos h8, if_pos h8]
    show _ + dynamicRotate 1 120#32 none X rotates_S1024x128_d1 (ix2 r l) * _ = _
    rw [rotLane_at 120#32 _ _ r l ⟨l.val + 8, by omega⟩ (by show l.val + 8 = (l.val + 128 - 120 % 128) % 128; omega), hX,
      mul_neg, ← sub_eq_add_neg]
    rfl
  · rw [if_neg h8, if_neg h8, if_neg h8, if_neg h8]
    show _ + dynamicRotate 1 8#32 none X rotates_S1024x128_d1 (ix2 r l) * _ = _
    by_cases h16 : l.val % 64 < 16
    · rw [if_pos h16, if_pos h16, if_pos h16,
        rotLane_at 8#32 _ _ r l ⟨l.val - 8, by omega⟩ (by show l.val - 8 = (l.val + 128 - 8 % 128) % 128; omega), hX]
      show _ + f (128 * h + (l.val - 8)) * _ = _
      rw [show 128 * h + (l.val - 8) = 128 * h + l.val - 8 by omega]
    · rw [if_neg h16, if_neg h16, if_neg h16, mul_one, mul_zero, add_zero]

/-- Two unit axes put in front of a matrix. -/
theorem lift_at (x : FVec Ideal S1024x128 .f32) (r : Fin 1024) (l : Fin 128) (a b : Fin 1) :
    shapeCast S1x1x1024x128 x shapeCasts_S1024x128_S1x1x1024x128 (ix4 a b r l) = x (ix2 r l) :=
  shapeCast_apply _ _ _ (ix2 r l) (by
    rw [Shape.rowMajor_val_two, Shape.rowMajor_val_four]
    show r.val * 128 + l.val = ((a.val * 1 + b.val) * 1024 + r.val) * 128 + l.val
    have := a.isLt; have := b.isLt
    omega)

/-! ## The convolution -/

/-- Three columns stacked. -/
theorem stack_at (a : S16x1.Idx → EReal) (b : S1024x1.Idx → EReal) (c : S16x1.Idx → EReal)
    (hc : Shape.Concatenates [S16x1, S1024x1, S16x1] S1056x1 0) (q : Fin 1056) :
    concatenate S1056x1 0 [⟨S16x1, a⟩, ⟨S1024x1, b⟩, ⟨S16x1, c⟩] hc (ix2 q 0)
      = widen (fun r => a (ix2 r 0)) (fun r => b (ix2 r 0)) (fun r => c (ix2 r 0)) q := by
  refine widen_cases (motive := fun q => concatenate S1056x1 0 [⟨S16x1, a⟩, ⟨S1024x1, b⟩, ⟨S16x1, c⟩] hc (ix2 q 0)
      = widen (fun r => a (ix2 r 0)) (fun r => b (ix2 r 0)) (fun r => c (ix2 r 0)) q)
    (fun r q h => ?_) (fun r q h => ?_) (fun r q h => ?_) q
  · rw [widen_prev _ _ _ r q h]
    refine concatenate_apply_piece (t := S1056x1) (0 : Fin 2) [⟨S16x1, a⟩, ⟨S1024x1, b⟩, ⟨S16x1, c⟩] hc (ix2 q 0) 0
      (by show 0 < 3; decide) S16x1 a rfl rfl 0 rfl (ix2 r 0) (fun d hd => ?_) ((Nat.zero_add _).trans h.symm)
    match d, hd with
    | ⟨0, _⟩, hd => exact absurd rfl hd
    | ⟨1, _⟩, _ => rfl
  · rw [widen_own _ _ _ r q h]
    refine concatenate_apply_piece (t := S1056x1) (0 : Fin 2) [⟨S16x1, a⟩, ⟨S1024x1, b⟩, ⟨S16x1, c⟩] hc (ix2 q 0) 1
      (by show 1 < 3; decide) S1024x1 b rfl rfl 16 rfl (ix2 r 0) (fun d hd => ?_) h.symm
    match d, hd with
    | ⟨0, _⟩, hd => exact absurd rfl hd
    | ⟨1, _⟩, _ => rfl
  · rw [widen_next _ _ _ r q h]
    refine concatenate_apply_piece (t := S1056x1) (0 : Fin 2) [⟨S16x1, a⟩, ⟨S1024x1, b⟩, ⟨S16x1, c⟩] hc (ix2 q 0) 2
      (by show 2 < 3; decide) S16x1 c rfl rfl 1040 rfl (ix2 r 0) (fun d hd => ?_) h.symm
    match d, hd with
    | ⟨0, _⟩, hd => exact absurd rfl hd
    | ⟨1, _⟩, _ => rfl

/-- The word comparisons that find the halo rows. -/
theorem halo_words : ∀ q : Fin 1056, IntOp.cmpi .slt (BitVec.ofNat 32 q.val) 16#32 = (if q.val < 16 then 1#1 else 0#1)
    ∧ IntOp.cmpi .sge (BitVec.ofNat 32 q.val) 1040#32 = (if 1040 ≤ q.val then 1#1 else 0#1) := by
  decide +kernel

/-- The mask of the rows outside the sequence. -/
theorem outside_at (first last : BitVec 1) (q : Fin 1056) :
    k0_pay38 first last (ix2 q 0) = if (q.val < 16 ∧ first = 1) ∨ (1040 ≤ q.val ∧ last = 1) then 1#1 else 0#1 := by
  unfold k0_pay38
  dsimp only
  show IntOp.ori (IntOp.andi (IntOp.cmpi .slt (iota .tc S1056x1 32 [0] iota_S1056x1_d0_w32 (ix2 q 0)) 16#32) first)
    (IntOp.andi (IntOp.cmpi .sge (iota .tc S1056x1 32 [0] iota_S1056x1_d0_w32 (ix2 q 0)) 1040#32) last) = _
  rw [iota_single_apply]
  show IntOp.ori (IntOp.andi (IntOp.cmpi .slt (BitVec.ofNat 32 q.val) 16#32) first)
    (IntOp.andi (IntOp.cmpi .sge (BitVec.ofNat 32 q.val) 1040#32) last) = _
  rw [(halo_words q).1, (halo_words q).2]
  by_cases h : q.val < 16
  · have h' : ¬ 1040 ≤ q.val := by omega
    simp only [h, h', if_true, if_false, true_and, false_and, or_false]
    revert first last
    decide
  · by_cases h' : 1040 ≤ q.val
    · simp only [h, h', if_true, if_false, true_and, false_and, false_or]
      revert first last
      decide
    · simp only [h, h', if_false, false_and, or_false]
      revert first last
      decide

/-- A column of a mask repeated along every row. -/
theorem bcolMask_at (x : S1056x1.Idx → BitVec 1) (h : S1056x1.Broadcasts S1056x512) (q : Fin 1056) (c : Fin 512) :
    broadcastTo S1056x512 x h (ix2 q c) = x (ix2 q 0) :=
  broadcastTo_apply x h _ _ fun a => by
    match a with
    | ⟨0, _⟩ => rfl
    | ⟨1, _⟩ => rfl

/-- The widened rows times the gain as one array. -/
def Blocks.hcatArr : Vec Ideal S1056x1024 .bf16 := fun y => B.row (y 0) (y 1) * B.g (ix2 0 (y 1))

/-- The widened tile's scaled product at a row and a column, zeroed outside the sequence. -/
theorem padded_at (first last : BitVec 1) (W : FVec Ideal S1024x512 .bf16)
    (hW : ∀ (k : Fin 1024) (c : Fin 512), W (ix2 k c) = B.w (ix2 k ⟨1536 + c.val, by omega⟩)) (q : Fin 1056) (c : Fin 512) :
    (select (broadcastTo S1056x512 (k0_pay38 first last) broadcasts_S1056x1_S1056x512)
      (broadcast S1056x512 (Scalar.ofBits (F := Ideal) .f32 0x00000000#32))
      (mulf (matmul (φ₁ := .bf16) dot_S1056x1024_S1024x512_S1056x512_1_0_0_1_n_n none B.hcatArr W (constant (F := Ideal) S1056x512 .f32 0x00000000#32))
        (broadcastTo S1056x512 (concatenate S1056x1 0 [⟨S16x1, k0_pay12 (F := Ideal) B.xPrev⟩, ⟨S1024x1, k0_pay9 (F := Ideal) B.x⟩,
          ⟨S16x1, k0_pay14 (F := Ideal) B.xNext⟩] concatenates_S16x1_S1024x1_S16x1_S1056x1_d0) broadcasts_S1056x1_S1056x512))
      : FVec Ideal S1056x512 .f32) (ix2 q c) = B.uPad first last q c.val := by
  rw [select_apply, bcolMask_at, outside_at]
  unfold Blocks.uPad
  by_cases h : (q.val < 16 ∧ first = 1) ∨ (1040 ≤ q.val ∧ last = 1)
  · rw [if_pos h, if_pos h]
    exact Ideal.ofBits_zero_f32
  · rw [if_neg h, if_neg h]
    show mulf _ _ (ix2 q c) = _
    have hs : (widen (fun r => k0_pay12 (F := Ideal) B.xPrev (ix2 r 0)) (fun r => k0_pay9 (F := Ideal) B.x (ix2 r 0))
        (fun r => k0_pay14 (F := Ideal) B.xNext (ix2 r 0)) q : EReal) = scale (B.row q) := by
      simp only [scale_at, scalePrev_at, scaleNext_at]
      unfold Blocks.row widen
      split
      · rfl
      · split <;> rfl
    rw [ValueIdx.mulf_apply, mm_at (φ := .bf16) (ψ := .bf16) dot_S1056x1024_S1024x512_S1056x512_1_0_0_1_n_n rfl, bcol_at _ _ (by decide),
      stack_at, hs]
    unfold Blocks.zOf
    rw [dif_pos (by omega), ← dot_scaled]
    refine congrArg (· * _) (Finset.sum_congr rfl fun k _ => ?_)
    rw [hW]
    rfl

/-- The memory's convolved key input. -/
theorem uc_at (first last : BitVec 1) (W : Vec Ideal S1024x512 .bf16)
    (hW : ∀ (k : Fin 1024) (c : Fin 512), W (ix2 k c) = B.w (ix2 k ⟨1536 + c.val, by omega⟩)) (r : Fin 1024) (c : Fin 512) :
    k0_pay40 (F := Ideal) (k0_pay9 B.x) (k0_pay12 B.xPrev) (k0_pay14 B.xNext) (k0_pay38 first last) B.hcatArr (k0_pay39 W)
        (constant (F := Ideal) S1056x512 .f32 0x00000000#32) B.cw B.cb (ix2 r c) = B.uc first last r c := by
  have hr := r.isLt
  have hp := padded_at B first last W hW
  unfold k0_pay40 k0_pay39
  dsimp only
  rw [shapeCast_self, shapeCast_self, shapeCast_self, shapeCast_self, truncf_apply, ValueIdx.mulf_apply]
  show _ * Ideal.logistic _ = _
  simp only [ValueIdx.addf_apply, ValueIdx.mulf_apply]
  rw [slice_at 16 0 _ _ r c ⟨r.val + 16, by omega⟩ c (Nat.add_comm _ _) (Nat.zero_add _).symm,
    slice_at 16 0 _ _ r c ⟨r.val + 16, by omega⟩ c (Nat.add_comm _ _) (Nat.zero_add _).symm,
    slice_at 16 0 _ _ r c ⟨r.val + 16, by omega⟩ c (Nat.add_comm _ _) (Nat.zero_add _).symm,
    rot_at 1#32 _ _ ⟨r.val + 16, by omega⟩ ⟨r.val + 15, by omega⟩ c
      (by show r.val + 15 = (r.val + 16 + 1056 - 1 % 1056) % 1056; omega),
    rot_at 1055#32 _ _ ⟨r.val + 16, by omega⟩ ⟨r.val + 17, by omega⟩ c
      (by show r.val + 17 = (r.val + 16 + 1056 - 1055 % 1056) % 1056; omega),
    brow_at _ _ (by decide) r c, brow_at _ _ (by decide) r c, brow_at _ _ (by decide) r c, brow_at _ _ (by decide) r c,
    slice_at 0 0 B.cw _ 0 c 0 c rfl (Nat.zero_add _).symm, slice_at 1 0 B.cw _ 0 c 1 c rfl (Nat.zero_add _).symm,
    slice_at 2 0 B.cw _ 0 c 2 c rfl (Nat.zero_add _).symm, hp, hp, hp]
  rfl

/-! ## The blocks stored -/

/-- The factor on queries. -/
theorem queryFactor : Ideal.ofBits .f32 0x3E38AA3B#32 = queryScale := rfl

/-- A query of a row of the tile. -/
def Blocks.q (r : Fin 1024) (n : ℕ) : EReal := rotary (B.p r) (B.z r) n * queryScale

/-- A key of a row of the tile. -/
def Blocks.k (r : Fin 1024) (n : ℕ) : EReal := rotary (B.p r) (fun j => B.z r (512 + j)) n

/-- The in-projections of the queries, keys and values. -/
abbrev Blocks.qkv (W : Vec Ideal S1024x1536 .bf16) : FVec Ideal S1024x1536 .f32 := k0_pay22 (k0_pay9 B.x) (k0_pay10 B.x B.g) W

/-- They are the first 1536 columns. -/
theorem qkv_at (W : Vec Ideal S1024x1536 .bf16)
    (hW : ∀ (k : Fin 1024) (c : Fin 1536), W (ix2 k c) = B.w (ix2 k ⟨c.val, by omega⟩)) (r : Fin 1024) (c : Fin 1536) :
    B.qkv W (ix2 r c) = B.z r c.val := by
  unfold Blocks.qkv k0_pay22
  rw [shapeCast_self]
  exact proj_at B dot_S1024x1024_S1024x1536_S1024x1536_1_0_0_1_n_n rfl W _ r c ⟨c.val, by omega⟩ fun k => hW k c

/-- The cosine lanes. -/
abbrev Blocks.cosLanes : FVec Ideal S1024x128 .f32 :=
  k0_pay6 (k0_pay3 B.invc B.pos) (k0_pay4 B.invc B.pos) B.sel B.sel B.unrot
/-- The sine lanes. -/
abbrev Blocks.sinLanes : FVec Ideal S1024x128 .f32 := k0_pay7 (k0_pay3 B.invc B.pos) (k0_pay4 B.invc B.pos) B.sel B.sel

/-- A stored pair of heads of queries, from its columns of the in-projection. -/
abbrev Blocks.qPiece (X : FVec Ideal S1024x128 .f32) : FVec Ideal S1x1x1024x128 .f32 :=
  shapeCast S1x1x1024x128 (mulf (turn B.cosLanes B.sinLanes X) (broadcast S1024x128 (Scalar.ofBits (F := Ideal) .f32 0x3E38AA3B#32)))
    shapeCasts_S1024x128_S1x1x1024x128
/-- A stored pair of heads of keys. -/
abbrev Blocks.kPiece (X : FVec Ideal S1024x128 .f32) : FVec Ideal S1x1x1024x128 .f32 :=
  shapeCast S1x1x1024x128 (turn B.cosLanes B.sinLanes X) shapeCasts_S1024x128_S1x1x1024x128
/-- A stored pair of heads of values. -/
abbrev vPiece (X : FVec Ideal S1024x128 .f32) : FVec Ideal S1x1x1024x128 .f32 :=
  shapeCast S1x1x1024x128 X shapeCasts_S1024x128_S1x1x1024x128

/-- Its entries are queries. -/
theorem qPiece_at (hT : B.Tables) (X : FVec Ideal S1024x128 .f32) (h : ℕ)
    (hX : ∀ (r : Fin 1024) (l : Fin 128), X (ix2 r l) = B.z r (128 * h + l.val)) (a b : Fin 1) (r : Fin 1024) (l : Fin 128) :
    B.qPiece X (ix4 a b r l) = B.q r (128 * h + l.val) := by
  unfold Blocks.qPiece
  rw [lift_at, ValueIdx.mulf_apply, turn_at B _ _ X (B.z r) h r (cosLanes_at B hT r) (sinLanes_at B hT r) (hX r) l]
  rfl

/-- Its entries are keys. -/
theorem kPiece_at (hT : B.Tables) (X : FVec Ideal S1024x128 .f32) (h : ℕ)
    (hX : ∀ (r : Fin 1024) (l : Fin 128), X (ix2 r l) = B.z r (512 + (128 * h + l.val))) (a b : Fin 1) (r : Fin 1024)
    (l : Fin 128) : B.kPiece X (ix4 a b r l) = B.k r (128 * h + l.val) := by
  unfold Blocks.kPiece
  rw [lift_at, turn_at B _ _ X (fun j => B.z r (512 + j)) h r (cosLanes_at B hT r) (sinLanes_at B hT r) (hX r) l]
  rfl

section Cuts

variable (C S : FVec Ideal S1024x128 .f32) (Z : FVec Ideal S1024x1536 .f32)

/-- The columns of one pair of heads. -/
abbrev lanes (o : ℕ) (h : S1024x1536.Slices ![0, o] S1024x128) : FVec Ideal S1024x128 .f32 :=
  extractStridedSlice S1024x128 ![0, o] Z h

/-- A turned pair of heads scaled and stored. -/
abbrev scaled (X : FVec Ideal S1024x128 .f32) : FVec Ideal S1x1x1024x128 .f32 :=
  shapeCast S1x1x1024x128 (mulf (turn C S X) (broadcast S1024x128 (Scalar.ofBits (F := Ideal) .f32 0x3E38AA3B#32)))
    shapeCasts_S1024x128_S1x1x1024x128

/-! Each store computes its value by the same operations, whatever it names of them. -/

/-- The queries of pair of heads 0. -/
theorem cutq0 (s : FVec Ideal S1024x1 .f32) (G : FVec Ideal S1024x1024 .bf16) (W : Vec Ideal S1024x1536 .bf16) :
    k0_pay23 C S s G 64#32 k0_pay18 k0_pay19 k0_pay20 W
      = scaled C S (lanes (k0_pay22 s G W) 0 slices_S1024x1536_o0_0_S1024x128) := rfl
/-- The queries of pair of heads 1. -/
theorem cutq1 : k0_pay26 C S laneMask Z = scaled C S (lanes Z 128 slices_S1024x1536_o0_128_S1024x128) := rfl
/-- The queries of pair of heads 2. -/
theorem cutq2 : k0_pay29 C S laneMask Z = scaled C S (lanes Z 256 slices_S1024x1536_o0_256_S1024x128) := rfl
/-- The queries of pair of heads 3. -/
theorem cutq3 : k0_pay35 (k0_pay33 C Z) (k0_pay34 S laneMask Z)
    = scaled C S (lanes Z 384 slices_S1024x1536_o0_384_S1024x128) := rfl
/-- The keys of pair of heads 0. -/
theorem cutk0 (s : FVec Ideal S1024x1 .f32) (G : FVec Ideal S1024x1024 .bf16) (W : Vec Ideal S1024x1536 .bf16) :
    k0_pay24 C S s G 64#32 k0_pay18 k0_pay19 k0_pay20 W
      = vPiece (turn C S (lanes (k0_pay22 s G W) 512 slices_S1024x1536_o0_512_S1024x128)) := rfl
/-- The keys of pair of heads 1. -/
theorem cutk1 : k0_pay27 C S laneMask Z = vPiece (turn C S (lanes Z 640 slices_S1024x1536_o0_640_S1024x128)) := rfl
/-- The keys of pair of heads 2. -/
theorem cutk2 : k0_pay30 C S laneMask Z = vPiece (turn C S (lanes Z 768 slices_S1024x1536_o0_768_S1024x128)) := rfl
/-- The keys of pair of heads 3. -/
theorem cutk3 : k0_pay36 C S laneMask Z = vPiece (turn C S (lanes Z 896 slices_S1024x1536_o0_896_S1024x128)) := rfl
/-- The values of pair of heads 0. -/
theorem cutv0 : k0_pay25 Z = vPiece (lanes Z 1024 slices_S1024x1536_o0_1024_S1024x128) := rfl
/-- The values of pair of heads 1. -/
theorem cutv1 : k0_pay28 Z = vPiece (lanes Z 1152 slices_S1024x1536_o0_1152_S1024x128) := rfl
/-- The values of pair of heads 2. -/
theorem cutv2 : k0_pay31 Z = vPiece (lanes Z 1280 slices_S1024x1536_o0_1280_S1024x128) := rfl
/-- The values of pair of heads 3. -/
theorem cutv3 : k0_pay37 Z = vPiece (lanes Z 1408 slices_S1024x1536_o0_1408_S1024x128) := rfl

end Cuts

/-- The columns of a pair of heads of the in-projection. -/
theorem lanes_at (W : Vec Ideal S1024x1536 .bf16)
    (hW : ∀ (k : Fin 1024) (c : Fin 1536), W (ix2 k c) = B.w (ix2 k ⟨c.val, by omega⟩)) (o : ℕ)
    (h : S1024x1536.Slices ![0, o] S1024x128) (ho : o + 128 ≤ 1536) (r : Fin 1024) (l : Fin 128) :
    lanes (B.qkv W) o h (ix2 r l) = B.z r (o + l.val) := by
  unfold lanes
  rw [slice_at 0 o _ h r l r (⟨o + l.val, by omega⟩ : Fin 1536) (Nat.zero_add _).symm rfl, qkv_at B W hW]

/-- The memory's last two in-projections. -/
theorem memory_at (W : Vec Ideal S1024x1024 .bf16)
    (hW : ∀ k c : Fin 1024, W (ix2 k c) = B.w (ix2 k ⟨2048 + c.val, by omega⟩)) (r c : Fin 1024) :
    k0_pay41 (F := Ideal) (k0_pay9 B.x) (k0_pay10 B.x B.g) W (ix2 r c) = B.z r (2048 + c.val) := by
  unfold k0_pay41
  rw [shapeCast_self]
  exact proj_at B dot_S1024x1024_S1024x1024_S1024x1024_1_0_0_1_n_n rfl W _ r c ⟨2048 + c.val, by omega⟩ fun k => hW k c

/-- The memory's values. -/
theorem vm_at (W : Vec Ideal S1024x1024 .bf16)
    (hW : ∀ k c : Fin 1024, W (ix2 k c) = B.w (ix2 k ⟨2048 + c.val, by omega⟩)) (r : Fin 1024) (c : Fin 512) :
    k0_pay42 (F := Ideal) (k0_pay9 B.x) (k0_pay10 B.x B.g) W (ix2 r c) = B.z r (2048 + c.val) := by
  unfold k0_pay42
  rw [truncf_apply, slice_at 0 0 _ _ r c r (⟨c.val, by omega⟩ : Fin 1024) (Nat.zero_add _).symm (Nat.zero_add _).symm,
    memory_at B W hW]

/-- The memory's output gates. -/
theorem og_at (W : Vec Ideal S1024x1024 .bf16)
    (hW : ∀ k c : Fin 1024, W (ix2 k c) = B.w (ix2 k ⟨2048 + c.val, by omega⟩)) (r : Fin 1024) (c : Fin 512) :
    k0_pay43 (F := Ideal) (k0_pay9 B.x) (k0_pay10 B.x B.g) W (ix2 r c) = Ideal.logistic (B.z r (2560 + c.val)) := by
  unfold k0_pay43
  show Ideal.logistic _ = _
  rw [slice_at 0 512 _ _ r c r (⟨512 + c.val, by omega⟩ : Fin 1024) (Nat.zero_add _).symm rfl, memory_at B W hW]
  show Ideal.logistic (B.z r (2048 + (512 + c.val))) = _
  rw [show 2048 + (512 + c.val) = 2560 + c.val by omega]

/-- The memory's input and forget gates before their activations. -/
theorem gate_at (W : Vec Ideal S1024x128 .bf16)
    (hW : ∀ (k : Fin 1024) (c : Fin 128), W (ix2 k c) = B.w (ix2 k ⟨3072 + c.val, by omega⟩)) (j : Fin 16) (r : Fin 1024) :
    k0_pay1 (F := Ideal) (k0_pay9 B.x) (k0_pay10 B.x B.g) W (ix2 j r) = B.z r (3072 + j.val) := by
  unfold k0_pay1
  dsimp only
  rw [slice_at 0 0 _ _ j r (⟨j.val, by omega⟩ : Fin 128) r (Nat.zero_add _).symm (Nat.zero_add _).symm,
    transpose_ix2_apply, shapeCast_self]
  exact proj_at B dot_S1024x1024_S1024x128_S1024x128_1_0_0_1_n_n rfl W _ r ⟨j.val, by omega⟩ ⟨3072 + j.val, by omega⟩
    fun k => hW k _

end Cert.InprojIdeal.Tile

end
-- ==== Proof.InprojBody.lean ====
/- One run of the opening block's body as mathematics: the scratch array it fills is the widened rows times the gain, and
   the seven blocks it stores are the queries, keys, values, convolved key inputs, memory values, output gates and gates
   of the tile. -/
module

public import proofs.«01_k».proof.Proof.FfnBody
public import proofs.«01_k».proof.Proof.InprojTile
public import proofs.«01_k».proof.Proof.Gen.InprojIdeal.Frame
public import Idealize.ShloMosaic.Lib.Ring

@[expose] public section

set_option maxRecDepth 16384

noncomputable section

namespace Cert.InprojIdeal.Tile

open Cert.InprojIdeal Cert.InprojIdeal.Gen Cert.Spec Cert.Ops
open Cert.FfnIdeal.Tile (zero2 unit_val idx_ext2 ld_cols widen widen_prev widen_own widen_next)
open Idealize.ShloMosaic hiding ix1 ix2 ix3 ix4
open Idealize.ShloMosaic.TcCoe Idealize.ShloMosaic.Tactic Idealize.ShloMosaic.ValueIdx

/-- The offset of a whole three-axis access is zero on every axis. -/
theorem zero3 : (![0, 0, 0] : Fin 3 → ℕ) = fun _ => 0 := by decide

/-- Two indices into a four-axis array with the same coordinates are equal. -/
theorem idx_ext4 {n₁ n₂ n₃ n₄ : ℕ} {α : Type} (f : (Shape.Idx ⟨4, ![n₁, n₂, n₃, n₄]⟩) → α)
    (y : Shape.Idx ⟨4, ![n₁, n₂, n₃, n₄]⟩) (a : Fin n₁) (b : Fin n₂) (c : Fin n₃) (d : Fin n₄) (ha : (y 0 : ℕ) = a.val)
    (hb : (y 1 : ℕ) = b.val) (hc : (y 2 : ℕ) = c.val) (hd : (y 3 : ℕ) = d.val) : f y = f (ix4 a b c d) := by
  refine congrArg f (funext fun j => Fin.ext ?_)
  rcases j with ⟨_ | _ | _ | _ | j, hj⟩
  · exact ha
  · exact hb
  · exact hc
  · exact hd
  · exact absurd hj (by show ¬ j + 4 < 4; omega)

variable (B : Blocks)

/-! ## The widened rows -/

/-- The three stores that fill the scratch, last first. -/
abbrev hcatPieces : List (View.Piece (Elt Ideal) S1056x1024 .bf16) :=
  [⟨Rect.unit ![1040, 0] S16x1024.size inb_S1056x1024_S16x1024_1040_0, k0_pay17 (F := Ideal) B.xNext B.g⟩,
   ⟨Rect.unit ![16, 0] S1024x1024.size inb_S1056x1024_S1024x1024_16_0, k0_pay16 (F := Ideal) (k0_pay10 B.x B.g)⟩,
   ⟨Rect.unit ![0, 0] S16x1024.size inb_S1056x1024_S16x1024_0_0, k0_pay15 (F := Ideal) (k0_pay11 B.xPrev) B.g⟩]

/-- The middle store holds the tile's rows times the gain as they are. -/
theorem mid_eq (G : FVec Ideal S1024x1024 .bf16) : k0_pay16 (F := Ideal) G = G := by
  unfold k0_pay16
  rw [shapeCast_self]

/-- They leave the widened rows times the gain. -/
theorem hcat_canon (y : S1056x1024.Idx) : View.canon (hcatPieces B) y = B.hcatArr y := by
  refine View.canon_apply_of_pieces B.hcatArr _ ?_ y (View.cover_of_tiledBy _ ![16, 1024] (by sl_kernel_rfl) y)
  simp only [hcatPieces, List.forall_mem_cons, List.not_mem_nil, false_imp_iff, implies_true, and_true, mid_eq]
  refine ⟨fun x => ?_, fun x => ?_, fun x => ?_⟩
  · refine ((congrArg _ (ValueIdx.eq_ix2 x)).trans (gainedNext_at B (x 0) (x 1))).trans (Eq.symm ?_)
    refine (idx_ext2 B.hcatArr _ ⟨1040 + (x 0).val, by have : (x 0).val < 16 := (x 0).isLt; omega⟩ (x 1)
      (unit_val _ _ _ x 0) ((unit_val _ _ _ x 1).trans (Nat.zero_add _))).trans ?_
    exact congrArg (fun v : Row 1024 => v (x 1) * B.g (ix2 0 (x 1))) (widen_next _ _ _ (x 0) _ rfl)
  · refine ((congrArg _ (ValueIdx.eq_ix2 x)).trans (gained_at B (x 0) (x 1))).trans (Eq.symm ?_)
    refine (idx_ext2 B.hcatArr _ ⟨16 + (x 0).val, by have : (x 0).val < 1024 := (x 0).isLt; omega⟩ (x 1)
      (unit_val _ _ _ x 0) ((unit_val _ _ _ x 1).trans (Nat.zero_add _))).trans ?_
    exact congrArg (fun v : Row 1024 => v (x 1) * B.g (ix2 0 (x 1))) (widen_own _ _ _ (x 0) _ rfl)
  · refine ((congrArg _ (ValueIdx.eq_ix2 x)).trans (gainedPrev_at B (x 0) (x 1))).trans (Eq.symm ?_)
    refine (idx_ext2 B.hcatArr _ ⟨(x 0).val, by have : (x 0).val < 16 := (x 0).isLt; omega⟩ (x 1)
      ((unit_val _ _ _ x 0).trans (Nat.zero_add _)) ((unit_val _ _ _ x 1).trans (Nat.zero_add _))).trans ?_
    exact congrArg (fun v : Row 1024 => v (x 1) * B.g (ix2 0 (x 1))) (widen_prev _ _ _ (x 0) _ rfl)

/-- Loaded whole, the scratch is the widened rows times the gain. -/
theorem hcat_cov {κ : Kind} {sp : Space} (v : View sig κ sp S1056x1024 .bf16) :
    v.readCov (hcatPieces B) (Rect.unit ![0, 0] S1056x1024.size inb_S1056x1024_S1056x1024_0_0).toLoadRect = B.hcatArr := by
  rw [View.readCov_eq_canon_ld v _ _ (View.cover_of_tiledBy _ ![16, 1024] (by sl_kernel_rfl)), View.ld_unit_zero zero2]
  exact funext (hcat_canon B)

/-! ## The pairs of heads -/

/-- The four stores of an output of pairs of heads, last first. -/
abbrev headPieces (p0 p1 p2 p3 : FVec Ideal S1x1x1024x128 .f32) : List (View.Piece (Elt Ideal) S1x4x1024x128 .f32) :=
  [⟨Rect.unit ![0, 3, 0, 0] S1x1x1024x128.size inb_S1x4x1024x128_S1x1x1024x128_0_3_0_0, p3⟩,
   ⟨Rect.unit ![0, 2, 0, 0] S1x1x1024x128.size inb_S1x4x1024x128_S1x1x1024x128_0_2_0_0, p2⟩,
   ⟨Rect.unit ![0, 1, 0, 0] S1x1x1024x128.size inb_S1x4x1024x128_S1x1x1024x128_0_1_0_0, p1⟩,
   ⟨Rect.unit ![0, 0, 0, 0] S1x1x1024x128.size inb_S1x4x1024x128_S1x1x1024x128_0_0_0_0, p0⟩]

/-- The array of pairs of heads whose column `n` in row `r` is `f r n`. -/
def headArr (f : Fin 1024 → ℕ → EReal) : Vec Ideal S1x4x1024x128 .f32 := fun y => f (y 2) (128 * (y 1).val + (y 3).val)

/-- One store's part of it. -/
theorem head_piece (f : Fin 1024 → ℕ → EReal) (h : Fin 4) (p : FVec Ideal S1x1x1024x128 .f32)
    (hp : ∀ (a b : Fin 1) r l, p (ix4 a b r l) = f r (128 * h.val + l.val))
    (inb : ∀ a, (![0, h.val, 0, 0] : Fin 4 → ℕ) a + S1x1x1024x128.size a ≤ S1x4x1024x128.size a) (x : S1x1x1024x128.Idx) :
    p x = headArr f ((Rect.unit (s := S1x4x1024x128) ![0, h.val, 0, 0] S1x1x1024x128.size inb).emb x) := by
  have h0 : (x 0).val < 1 := (x 0).isLt
  have h1 : (x 1).val < 1 := (x 1).isLt
  refine ((congrArg p (ValueIdx.eq_ix4 x)).trans (hp (x 0) (x 1) (x 2) (x 3))).trans (Eq.symm ?_)
  refine (idx_ext4 (headArr f) _ 0 h (x 2) (x 3)
    ((unit_val (s := S1x4x1024x128) ![0, h.val, 0, 0] S1x1x1024x128.size inb x 0).trans (by
      show 0 + (x 0).val = 0; omega))
    ((unit_val (s := S1x4x1024x128) ![0, h.val, 0, 0] S1x1x1024x128.size inb x 1).trans (by
      show h.val + (x 1).val = h.val; omega))
    ((unit_val (s := S1x4x1024x128) ![0, h.val, 0, 0] S1x1x1024x128.size inb x 2).trans (Nat.zero_add _))
    ((unit_val (s := S1x4x1024x128) ![0, h.val, 0, 0] S1x1x1024x128.size inb x 3).trans (Nat.zero_add _))).trans rfl

/-- The four stores leave it. -/
theorem head_canon (f : Fin 1024 → ℕ → EReal) (p0 p1 p2 p3 : FVec Ideal S1x1x1024x128 .f32)
    (h0 : ∀ (a b : Fin 1) r l, p0 (ix4 a b r l) = f r (128 * 0 + l.val))
    (h1 : ∀ (a b : Fin 1) r l, p1 (ix4 a b r l) = f r (128 * 1 + l.val))
    (h2 : ∀ (a b : Fin 1) r l, p2 (ix4 a b r l) = f r (128 * 2 + l.val))
    (h3 : ∀ (a b : Fin 1) r l, p3 (ix4 a b r l) = f r (128 * 3 + l.val)) :
    View.canon (headPieces p0 p1 p2 p3) = headArr f := by
  funext y
  refine View.canon_apply_of_pieces (headArr f) _ ?_ y
    (View.cover_of_tiledL (s := S1x4x1024x128) _ S1x1x1024x128.size (by sl_kernel_rfl) y)
  simp only [headPieces, List.forall_mem_cons, List.not_mem_nil, false_imp_iff, implies_true, and_true]
  exact ⟨head_piece f 3 p3 h3 _, head_piece f 2 p2 h2 _, head_piece f 1 p1 h1 _, head_piece f 0 p0 h0 _⟩

/-- The load of the first 1536 columns of the in-projection matrix. -/
theorem load_qkv (h : ∀ a, (![0, 0] : Fin 2 → ℕ) a + S1024x1536.size a ≤ S1024x3200.size a) (k : Fin 1024) (c : Fin 1536) :
    View.ld (Val := Elt Ideal) B.w (Rect.unit (s := S1024x3200) ![0, 0] S1024x1536.size h) (ix2 k c)
      = B.w (ix2 k ⟨c.val, by omega⟩) :=
  (ld_cols B.w 0 h k c (by omega)).trans (congrArg (fun n => B.w (ix2 k n)) (Fin.ext (Nat.zero_add _)))

/-- A stored pair of heads of values. -/
theorem v_at (W : Vec Ideal S1024x1536 .bf16)
    (hW : ∀ (k : Fin 1024) (c : Fin 1536), W (ix2 k c) = B.w (ix2 k ⟨c.val, by omega⟩)) (h o : ℕ) (ho : o = 1024 + 128 * h)
    (hs : S1024x1536.Slices ![0, o] S1024x128) (hb : h < 4) (a b : Fin 1) (r : Fin 1024) (l : Fin 128) :
    vPiece (lanes (B.qkv W) o hs) (ix4 a b r l) = B.z r (1024 + (128 * h + l.val)) := by
  unfold vPiece
  rw [lift_at, lanes_at B W hW o hs (by omega), ho, Nat.add_assoc]

/-- A stored pair of heads of keys. -/
theorem k_at (hT : B.Tables) (W : Vec Ideal S1024x1536 .bf16)
    (hW : ∀ (k : Fin 1024) (c : Fin 1536), W (ix2 k c) = B.w (ix2 k ⟨c.val, by omega⟩)) (h o : ℕ) (ho : o = 512 + 128 * h)
    (hs : S1024x1536.Slices ![0, o] S1024x128) (hb : h < 4) (a b : Fin 1) (r : Fin 1024) (l : Fin 128) :
    vPiece (turn B.cosLanes B.sinLanes (lanes (B.qkv W) o hs)) (ix4 a b r l) = B.k r (128 * h + l.val) :=
  kPiece_at B hT _ h (fun r l => by rw [lanes_at B W hW o hs (by omega), ho, Nat.add_assoc]) a b r l

/-- A stored pair of heads of queries. -/
theorem q_at (hT : B.Tables) (W : Vec Ideal S1024x1536 .bf16)
    (hW : ∀ (k : Fin 1024) (c : Fin 1536), W (ix2 k c) = B.w (ix2 k ⟨c.val, by omega⟩)) (h o : ℕ) (ho : o = 128 * h)
    (hs : S1024x1536.Slices ![0, o] S1024x128) (hb : h < 4) (a b : Fin 1) (r : Fin 1024) (l : Fin 128) :
    scaled B.cosLanes B.sinLanes (lanes (B.qkv W) o hs) (ix4 a b r l) = B.q r (128 * h + l.val) :=
  qPiece_at B hT _ h (fun r l => by rw [lanes_at B W hW o hs (by omega), ho]) a b r l

/-! ## The blocks stored -/

variable (m : (ℓ : Loc nD τ sig) → Buf (Elt Ideal) ℓ) (c : Dev nD)

/-- The blocks of grid point `t`. -/
abbrev blocks (t : Fin cfg0.N) : Blocks :=
  ⟨iblk m c 0 t, iblk m c 1 t, iblk m c 2 t, iblk m c 3 t, iblk m c 4 t, iblk m c 5 t, iblk m c 6 t, iblk m c 7 t,
   iblk m c 8 t, iblk m c 9 t, iblk m c 10 t⟩

/-- Whether a grid point is the first tile of its sequence. -/
def firstAt (t : Fin cfg0.N) : BitVec 1 := kernelRun0_A.sl.v10 (grid0.coords t)
/-- Whether a grid point is the last tile of its sequence. -/
def lastAt (t : Fin cfg0.N) : BitVec 1 := kernelRun0_A.sl.v21 (grid0.coords t)

/-- The body's two flags: the first tile of a sequence is the even one, the last the odd one. -/
theorem first_last : ∀ t : Fin cfg0.N, (firstAt t = 1 ↔ t.val % 2 = 0) ∧ (lastAt t = 1 ↔ t.val % 2 = 1) := by
  decide +kernel

set_option maxHeartbeats 1000000 in
/-- One run leaves the tile's values in their block. -/
theorem out13_eq (t : Fin cfg0.N) :
    (outsAt0 m c t).2.2.1 = headArr fun r n => (blocks m c t).z r (1024 + n) := by
  unfold outsAt0
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_10
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S16x1) zero2, View.ld_unit_zero (S := S16x256) zero2,
    View.ld_unit_zero (S := S1x128) zero2, View.ld_unit_zero (S := S3x512) zero2, View.ld_unit_zero (S := S1x512) zero2,
    View.ld_unit_zero (S := S1x1x1024) zero3]
  rw [cutv0, cutv1, cutv2, cutv3]
  refine head_canon (fun r n => (blocks m c t).z r (1024 + n)) _ _ _ _ ?_ ?_ ?_ ?_
  · exact v_at (blocks m c t) _ (load_qkv (blocks m c t) _) 0 1024 rfl _ (by decide)
  · exact v_at (blocks m c t) _ (load_qkv (blocks m c t) _) 1 1152 rfl _ (by decide)
  · exact v_at (blocks m c t) _ (load_qkv (blocks m c t) _) 2 1280 rfl _ (by decide)
  · exact v_at (blocks m c t) _ (load_qkv (blocks m c t) _) 3 1408 rfl _ (by decide)

set_option maxHeartbeats 4000000 in
/-- One run leaves the tile's keys in their block. -/
theorem out12_eq (t : Fin cfg0.N) (hT : (blocks m c t).Tables) :
    (outsAt0 m c t).2.1 = headArr fun r n => (blocks m c t).k r n := by
  unfold outsAt0
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_11
  unfold kernelRun0_A.sl.r_9 kernelRun0_A.sl.r_10
  unfold kernelRun0_A.sl.r_2 kernelRun0_A.sl.r_3
  unfold kernelRun0_A.sl.r kernelRun0_A.sl.r_1
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S16x1) zero2, View.ld_unit_zero (S := S16x256) zero2,
    View.ld_unit_zero (S := S1x128) zero2, View.ld_unit_zero (S := S3x512) zero2, View.ld_unit_zero (S := S1x512) zero2,
    View.ld_unit_zero (S := S1x1x1024) zero3]
  rw [cutk0, cutk1, cutk2, cutk3]
  refine head_canon (fun r n => (blocks m c t).k r n) _ _ _ _ ?_ ?_ ?_ ?_
  · exact k_at (blocks m c t) hT _ (load_qkv (blocks m c t) _) 0 512 rfl _ (by decide)
  · exact k_at (blocks m c t) hT _ (load_qkv (blocks m c t) _) 1 640 rfl _ (by decide)
  · exact k_at (blocks m c t) hT _ (load_qkv (blocks m c t) _) 2 768 rfl _ (by decide)
  · exact k_at (blocks m c t) hT _ (load_qkv (blocks m c t) _) 3 896 rfl _ (by decide)

set_option maxHeartbeats 4000000 in
/-- One run leaves the tile's queries in their block. -/
theorem out11_eq (t : Fin cfg0.N) (hT : (blocks m c t).Tables) :
    (outsAt0 m c t).1 = headArr fun r n => (blocks m c t).q r n := by
  unfold outsAt0
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_12 kernelRun0_A.sl.r_13
  unfold kernelRun0_A.sl.r_9 kernelRun0_A.sl.r_10
  unfold kernelRun0_A.sl.r_2 kernelRun0_A.sl.r_3
  unfold kernelRun0_A.sl.r kernelRun0_A.sl.r_1
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S16x1) zero2, View.ld_unit_zero (S := S16x256) zero2,
    View.ld_unit_zero (S := S1x128) zero2, View.ld_unit_zero (S := S3x512) zero2, View.ld_unit_zero (S := S1x512) zero2,
    View.ld_unit_zero (S := S1x1x1024) zero3]
  rw [cutq0, cutq1, cutq2, cutq3]
  refine head_canon (fun r n => (blocks m c t).q r n) _ _ _ _ ?_ ?_ ?_ ?_
  · exact q_at (blocks m c t) hT _ (load_qkv (blocks m c t) _) 0 0 rfl _ (by decide)
  · exact q_at (blocks m c t) hT _ (load_qkv (blocks m c t) _) 1 128 rfl _ (by decide)
  · exact q_at (blocks m c t) hT _ (load_qkv (blocks m c t) _) 2 256 rfl _ (by decide)
  · exact q_at (blocks m c t) hT _ (load_qkv (blocks m c t) _) 3 384 rfl _ (by decide)

set_option maxHeartbeats 1000000 in
/-- One run leaves the tile's convolved key inputs in their block. -/
theorem out14_eq (t : Fin cfg0.N) :
    (outsAt0 m c t).2.2.2.1 = fun y => (blocks m c t).uc (firstAt t) (lastAt t) (y 0) (y 1) := by
  unfold outsAt0
  dsimp only
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_4 kernelRun0_A.sl.r_7 kernelRun0_A.sl.r_8 kernelRun0_A.sl.r_14 kernelRun0_A.sl.v260
  unfold kernelRun0_A.sl.r_15 kernelRun0_A.sl.cst_124 kernelRun0_A.sl.HS0_3
  unfold kernelRun0_A.sl.r_5 kernelRun0_A.sl.r_6
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S3x512) zero2, View.ld_unit_zero (S := S1x512) zero2]
  rw [View.canon_cons_unit_zero zero2, hcat_cov (blocks m c t)]
  funext y
  exact (congrArg _ (ValueIdx.eq_ix2 y)).trans (uc_at (blocks m c t) (firstAt t) (lastAt t) _
    (fun k j => ld_cols (blocks m c t).w 1536 _ k j (by omega)) (y 0) (y 1))

set_option maxHeartbeats 1000000 in
/-- One run leaves the tile's memory values in their block. -/
theorem out15_eq (t : Fin cfg0.N) :
    (outsAt0 m c t).2.2.2.2.1 = fun y => (blocks m c t).z (y 0) (2048 + (y 1).val) := by
  unfold outsAt0
  dsimp only
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S3x512) zero2, View.ld_unit_zero (S := S1x512) zero2]
  rw [View.canon_cons_unit_zero zero2]
  funext y
  exact (congrArg _ (ValueIdx.eq_ix2 y)).trans (vm_at (blocks m c t) _
    (fun k j => ld_cols (blocks m c t).w 2048 _ k j (by omega)) (y 0) (y 1))

set_option maxHeartbeats 1000000 in
/-- One run leaves the tile's output gates in their block. -/
theorem out16_eq (t : Fin cfg0.N) :
    (outsAt0 m c t).2.2.2.2.2.1 = fun y => Ideal.logistic ((blocks m c t).z (y 0) (2560 + (y 1).val)) := by
  unfold outsAt0
  dsimp only
  unfold out0_A_16
  rw [View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_16
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S3x512) zero2, View.ld_unit_zero (S := S1x512) zero2]
  rw [View.canon_cons_unit_zero zero2]
  funext y
  exact (congrArg _ (ValueIdx.eq_ix2 y)).trans (og_at (blocks m c t) _
    (fun k j => ld_cols (blocks m c t).w 2048 _ k j (by omega)) (y 0) (y 1))

set_option maxHeartbeats 1000000 in
/-- One run leaves the tile's gates in their block. -/
theorem out17_eq (t : Fin cfg0.N) :
    (outsAt0 m c t).2.2.2.2.2.2 = fun y => (blocks m c t).z (y 1) (3072 + (y 0).val) := by
  unfold outsAt0
  dsimp only
  unfold out0_A_17
  rw [View.read_writes_eq_canon _ _ _ (cover0_A_17 c _ _ _ _ _ _ _ _ _ _ _ _ _ _ _ _ _ _ _ _ _ _ _ _ _ _ _ _ _ _ _ _ _ _ _ _ _ _ _ _ _ _ _ _ _ _ _ _ _ _)]
  unfold kernelRun0_A
  dsimp only
  unfold kernelRun0_A.sl.r_4 kernelRun0_A.sl.r_5
  simp only [View.readAt_eq_ld, Memref.IsWhole.read_unread]
  simp only [View.ld_unit_zero (S := S1024x1024) zero2, View.ld_unit_zero (S := S1x1024) zero2,
    View.ld_unit_zero (S := S16x1024) zero2, View.ld_unit_zero (S := S3x512) zero2, View.ld_unit_zero (S := S1x512) zero2]
  rw [View.canon_cons_unit_zero zero2]
  funext y
  exact (congrArg _ (ValueIdx.eq_ix2 y)).trans (gate_at (blocks m c t) _
    (fun k j => ld_cols (blocks m c t).w 3072 _ k j (by omega)) (y 0) (y 1))

end Cert.InprojIdeal.Tile

end
-- ==== Proof.InprojArray.lean ====
/- The opening block's blocks as rows of the argument arrays: tile `t` holds the tokens from `1024 t` on of the joined
   token axis, the sixteen tokens before it and the sixteen after it, and the rotary tables. -/
module

public import proofs.«01_k».proof.Proof.InprojBody
public import Idealize.ShloMosaic.Lib.Pipeline.ValueKit
public import Idealize.ShloMosaic.Lib.Claim

@[expose] public section

set_option maxRecDepth 16384

noncomputable section

namespace Cert.InprojIdeal.Tile

open Cert.InprojIdeal Cert.InprojIdeal.Gen Cert.Spec Cert.Ops
open Idealize.ShloMosaic hiding ix1 ix2 ix3 ix4
open Idealize.ShloMosaic.TcCoe Idealize.ShloMosaic.Tactic Idealize.ShloMosaic.ValueIdx

variable (m : (ℓ : Loc nD τ sig) → Buf (Elt Ideal) ℓ) (c : Dev nD)

/-- The argument arrays of a device. -/
def arrays : InArrays where
  x := m ((c : Thread nD τ).loc main_arg0)
  pos := m ((c : Thread nD τ).loc main_arg1)
  g := m ((c : Thread nD τ).loc main_arg2)
  w := m ((c : Thread nD τ).loc main_arg3)
  cw := m ((c : Thread nD τ).loc main_arg4)
  cb := m ((c : Thread nD τ).loc main_arg5)

/-! ## The arrays the windows stage -/

/-- The tokens: row `n` of the flattened array is that token's row of the argument. -/
theorem host_x (n : Fin 32768) (d : Fin 1024) : V m c main_v3 (ix2 n d) = (arrays m c).x (ix3 (rowSeq n) (rowPos n) d) := by
  unfold arrays rowSeq rowPos
  simp only [V, hostOps0, hostOps0_1, hostOps0_2, List.flatten_cons, List.flatten_nil, List.append_nil, List.cons_append,
    List.nil_append]
  entry_read <;> pointwise <;> blk_ext

/-- The positions: tile by tile. -/
theorem host_pos (a : Fin 32) (b : Fin 1) (s : Fin 1024) (n : Fin 32768) (hn : n.val = 1024 * a.val + s.val) :
    V m c main_v4 (ix3 a b s) = (arrays m c).pos (ix2 (rowSeq n) (rowPos n)) := by
  have e : n = ⟨1024 * a.val + s.val, by omega⟩ := Fin.ext hn
  rw [e]
  unfold arrays rowSeq rowPos
  simp only [V, hostOps0, hostOps0_1, hostOps0_2, List.flatten_cons, List.flatten_nil, List.append_nil, List.cons_append,
    List.nil_append]
  entry_read <;> pointwise <;> blk_ext
  · show a.val / 2 = _
    omega
  · show a.val % 2 * 1024 + s.val = _
    omega

/-- The gain and the convolution's bias: one row. -/
theorem host_vectors :
    (∀ d, V m c main_v6 (ix2 0 d) = (arrays m c).g (ix2 0 d)) ∧ ∀ d, V m c main_v9 (ix2 0 d) = (arrays m c).cb (ix2 0 d) := by
  unfold arrays
  refine ⟨?_, ?_⟩ <;> intro d
  all_goals
    simp only [V, hostOps0, hostOps0_1, hostOps0_2, List.flatten_cons, List.flatten_nil, List.append_nil, List.cons_append,
      List.nil_append]
    entry_read
    pointwise <;> blk_ext

/-- The convolution's taps: the argument without its leading axis. -/
theorem host_taps (k : Fin 3) (d : Fin 512) : V m c main_v7 (ix2 k d) = (arrays m c).cw (ix3 0 k d) := by
  unfold arrays
  simp only [V, hostOps0, hostOps0_1, hostOps0_2, List.flatten_cons, List.flatten_nil, List.append_nil, List.cons_append,
    List.nil_append]
  entry_read <;> pointwise <;> blk_ext

/-- The in-projection matrix, in the columns the argument has. -/
theorem host_w (k : Fin 1024) (d : Fin 3200) (h : d.val < 3088) :
    V m c main_v2 (ix2 k d) = (arrays m c).w (ix3 0 k ⟨d.val, h⟩) := by
  unfold arrays
  simp only [V, hostOps0, hostOps0_1, hostOps0_2, List.flatten_cons, List.flatten_nil, List.append_nil, List.cons_append,
    List.nil_append]
  entry_read
  show pad S1024x3200 ![0, 0] ![0, 112] ![0, 0] (shapeCast S1024x3088 (m ((c : Thread nD τ).loc main_arg3))
    shapeCasts_S1x1024x3088_S1024x3088) _ pads_S1024x3088_S1024x3200_000_01120 h_S_ (ix2 k d) = _
  rw [pad_apply_of_inside _ _ _ _ _ _ _ _ (ix2 k ⟨d.val, h⟩) (fun a => by
    match a with
    | ⟨0, _⟩ => show k.val = 0 + k.val * 1; omega
    | ⟨1, _⟩ => show d.val = 0 + d.val * 1; omega)]
  exact shapeCast_apply _ _ _ (ix3 0 k ⟨d.val, h⟩) (by
    rw [Shape.rowMajor_val_two, Shape.rowMajor_val_three]
    show (0 * 1024 + k.val) * 3088 + d.val = k.val * 3088 + d.val
    omega)

/-- An array of eight numbers put twice in a row. -/
theorem twice_at (X : S8.Idx → EReal) (f : ℕ → EReal) (hX : ∀ i : Fin 8, X (ix1 i) = f i.val)
    (h : Shape.Concatenates [S8, S8] S16 0) (j : Fin 16) :
    concatenate S16 0 [⟨S8, X⟩, ⟨S8, X⟩] h (ix1 j) = f (j.val % 8) := by
  by_cases hj : j.val < 8
  · refine (concatenate_apply_piece (t := S16) (0 : Fin 1) [⟨S8, X⟩, ⟨S8, X⟩] h (ix1 j) 0
      (by show 0 < 2; decide) S8 X rfl rfl 0 rfl (ix1 ⟨j.val, hj⟩) (fun d hd => ?_) (Nat.zero_add _)).trans ?_
    · match d, hd with
      | ⟨0, _⟩, hd => exact absurd rfl hd
    · rw [Nat.mod_eq_of_lt hj]
      exact hX ⟨j.val, hj⟩
  · refine (concatenate_apply_piece (t := S16) (0 : Fin 1) [⟨S8, X⟩, ⟨S8, X⟩] h (ix1 j) 1
      (by show 1 < 2; decide) S8 X rfl rfl 8 rfl (ix1 ⟨j.val - 8, by omega⟩) (fun d hd => ?_) ?_).trans ?_
    · match d, hd with
      | ⟨0, _⟩, hd => exact absurd rfl hd
    · show 8 + (j.val - 8) = j.val
      omega
    · rw [show j.val % 8 = j.val - 8 by omega]
      exact hX ⟨j.val - 8, by omega⟩

/-- The rotary frequencies, twice. -/
theorem host_inv (j : Fin 16) : V m c main_v21 (ix2 j 0) = invFreq (j.val % 8) := by
  simp only [V, hostOps0, hostOps0_1, hostOps0_2, List.flatten_cons, List.flatten_nil, List.append_nil, List.cons_append,
    List.nil_append]
  entry_read
  have hf : ∀ i : Fin 8, Host.powf (F := Ideal) (broadcastInDim S8 ![] bcast_S_S8 (constant S_ .f32 0x48F42400#32))
      (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
        (broadcastInDim S8 ![] bcast_S_S8 (constant S_ .f32 0x41800000#32))) (ix1 i) = invFreq i.val := by
    intro i
    have hi : ((BitVec.ofNat 32 i.val).toInt : ℝ) = ((i.val : ℕ) : ℝ) := by
      have : ∀ i : Fin 8, (BitVec.ofNat 32 i.val).toInt = (i.val : ℤ) := by decide
      rw [this i]
      norm_cast
    show Ideal.pow ropeBase (Ideal.div (-(zeroW + two * (((BitVec.ofNat 32 i.val).toInt : ℝ) : EReal))) ropeLen) = _
    rw [hi]
    rfl
  rw [broadcastInDim_apply ![0] bcast_S16_S16x1_0 _ (ix2 j 0) (ix1 j) (fun a => by
    match a with
    | ⟨0, _⟩ => rfl)]
  exact twice_at _ invFreq hf concatenates_S8_S8_S16_d0 j

/-- The word of an entry of the spreading matrix. -/
def selWord (j c : ℕ) : BitVec 16 :=
  if c < 128 then (if c % 64 < 16 ∧ j = c % 8 then 0x3F80#16 else 0x0000#16)
  else if c % 64 < 8 ∧ j = 8 + c % 8 then 0xBF80#16
  else if 8 ≤ c % 64 ∧ c % 64 < 16 ∧ j = 8 + c % 8 then 0x3F80#16 else 0x0000#16

/-- The constant holds those words. -/
theorem sel_words : ∀ (j : Fin 16) (c : Fin 256), lit0 ⟨256 * j.val + c.val, by omega⟩ = selWord j.val c.val := by
  decide +kernel

/-- They are the entries. -/
theorem selWord_at (j c : ℕ) : Ideal.ofBits .bf16 (selWord j c) = selAt j c := by
  have h1 : Ideal.ofBits .bf16 0x3F80#16 = 1 := by
    simp [Ideal.ofBits, Ideal.ieee, -EReal.coe_mul]; norm_num
  have h2 : Ideal.ofBits .bf16 0xBF80#16 = -1 := by
    simp [Ideal.ofBits, Ideal.ieee, -EReal.coe_mul]; norm_num
  have h0 : Ideal.ofBits .bf16 0x0000#16 = 0 := by
    simp [Ideal.ofBits, Ideal.ieee, -EReal.coe_mul]
  unfold selWord selAt
  repeat' split
  all_goals first | exact h1 | exact h2 | exact h0

/-- The spreading matrix. -/
theorem host_sel (j : Fin 16) (d : Fin 256) : V m c main_cst (ix2 j d) = selAt j.val d.val := by
  simp only [V, hostOps0, hostOps0_1, hostOps0_2, List.flatten_cons, List.flatten_nil, List.append_nil, List.cons_append,
    List.nil_append]
  entry_read
  show Ideal.ofBits .bf16 (lit0 (S16x256.rowMajor (ix2 j d))) = _
  have e : S16x256.rowMajor (ix2 j d) = ⟨256 * j.val + d.val, by show _ < 4096; omega⟩ := Fin.ext (by
    rw [Shape.rowMajor_val_two]
    show j.val * 256 + d.val = 256 * j.val + d.val
    omega)
  rw [e, ← selWord_at]
  exact congrArg _ (sel_words j d)

/-- The constant that leaves the last lanes of a head in place. -/
theorem unrot_words : ∀ l : Fin 128, lit1 l = if l.val % 64 < 16 then 0x00000000#32 else 0x3F800000#32 := by
  decide +kernel

/-- Its entries. -/
theorem host_unrot (l : Fin 128) : V m c main_cst_0 (ix2 0 l) = if l.val % 64 < 16 then (0 : EReal) else (1 : EReal) := by
  simp only [V, hostOps0, hostOps0_1, hostOps0_2, List.flatten_cons, List.flatten_nil, List.append_nil, List.cons_append,
    List.nil_append]
  entry_read
  show Ideal.ofBits .f32 (lit1 (S1x128.rowMajor (ix2 0 l))) = _
  have e : S1x128.rowMajor (ix2 0 l) = l := Fin.ext (by
    rw [Shape.rowMajor_val_two]
    show 0 * 128 + l.val = _
    omega)
  have h1 : Ideal.ofBits .f32 0x3F800000#32 = 1 := by
    simp [Ideal.ofBits, Ideal.ieee, -EReal.coe_mul]; norm_num
  rw [e, unrot_words]
  split
  · exact Ideal.ofBits_zero_f32
  · exact h1

/-! ## Which block each window stages at a grid point -/

/-- The blocks of the token windows: the tile itself, the sixteen rows before it and the sixteen rows after it. -/
theorem index_tile : ∀ t : Fin cfg0.N,
    win0_0.index t = ![t.val, 0] ∧ win0_1.index t = ![64 * t.val - 1, 0]
    ∧ win0_2.index t = ![min (64 * (t.val + 1)) 2047, 0] ∧ win0_3.index t = ![t.val, 0, 0] := by decide +kernel

/-- The tables' and weights' windows stage their whole arrays. -/
theorem index_whole : ∀ t : Fin cfg0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] := by decide +kernel

/-- The blocks of the results' windows. -/
theorem index_out : ∀ t : Fin cfg0.N,
    win0_11.index t = ![t.val / 2, 0, t.val % 2, 0] ∧ win0_12.index t = ![t.val / 2, 0, t.val % 2, 0]
    ∧ win0_13.index t = ![t.val / 2, 0, t.val % 2, 0] ∧ win0_14.index t = ![t.val, 0] ∧ win0_15.index t = ![t.val, 0]
    ∧ win0_16.index t = ![t.val, 0] ∧ win0_17.index t = ![0, t.val] := by decide +kernel

/-! ## The blocks -/

/-- That `B` holds the blocks of tile `t` of the arrays `A`: rows of the tile, of the sixteen tokens before it and of the
    sixteen after it (held inside the array), and the whole of each weight. -/
structure BlocksOf (B : Blocks) (A : InArrays) (t : ℕ) : Prop where
  x : ∀ r d (n : Fin 32768), n.val = 1024 * t + r.val → B.x (ix2 r d) = A.x (ix3 (rowSeq n) (rowPos n) d)
  xPrev : ∀ r d (n : Fin 32768), n.val = 16 * (64 * t - 1) + r.val →
    B.xPrev (ix2 r d) = A.x (ix3 (rowSeq n) (rowPos n) d)
  xNext : ∀ r d (n : Fin 32768), n.val = 16 * min (64 * (t + 1)) 2047 + r.val →
    B.xNext (ix2 r d) = A.x (ix3 (rowSeq n) (rowPos n) d)
  pos : ∀ r (n : Fin 32768), n.val = 1024 * t + r.val → B.pos (ix3 0 0 r) = A.pos (ix2 (rowSeq n) (rowPos n))
  g : ∀ d, B.g (ix2 0 d) = A.g (ix2 0 d)
  w : ∀ k (d : Fin 3200) (h : d.val < 3088), B.w (ix2 k d) = A.w (ix3 0 k ⟨d.val, h⟩)
  cw : ∀ k d, B.cw (ix2 k d) = A.cw (ix3 0 k d)
  cb : ∀ d, B.cb (ix2 0 d) = A.cb (ix2 0 d)

set_option maxHeartbeats 1000000 in
/-- The blocks staged at a grid point are those of its tile. -/
theorem blocks_of (t : Fin cfg0.N) : BlocksOf (blocks m c t) (arrays m c) t.val := by
  obtain ⟨o0, o1, o2, o3⟩ := index_tile t
  obtain ⟨w4, w5, w6, w7, w8, w9, w10⟩ := index_whole t
  constructor
  case' x | xPrev | xNext => intro r d n h; refine Eq.trans ?_ (host_x m c n d)
  case' pos => intro r n h; refine Eq.trans ?_ (host_pos m c t 0 r n h)
  case' g => intro d; refine Eq.trans ?_ ((host_vectors m c).1 d)
  case' w => intro k d h; refine Eq.trans ?_ (host_w m c k d h)
  case' cw => intro k d; refine Eq.trans ?_ (host_taps m c k d)
  case' cb => intro d; refine Eq.trans ?_ ((host_vectors m c).2 d)
  all_goals
    dsimp only
    unfold iblk
    blk_simp
    refine congrArg _ ?_
  all_goals blk_ext [o0, o1, o2, o3, w4, w8, w9, w10]
  all_goals
    show _ * _ + r.val = n.val
    omega

set_option maxHeartbeats 1000000 in
/-- The blocks staged at a grid point hold the rotary tables. -/
theorem tables_of (t : Fin cfg0.N) : (blocks m c t).Tables := by
  obtain ⟨w4, w5, w6, w7, w8, w9, w10⟩ := index_whole t
  constructor
  case' invc => intro j; refine Eq.trans ?_ (host_inv m c j)
  case' sel => intro j d; refine Eq.trans ?_ (host_sel m c j d)
  case' unrot => intro l; refine Eq.trans ?_ (host_unrot m c l)
  all_goals
    dsimp only
    unfold iblk
    blk_simp
    refine congrArg _ ?_
  all_goals blk_ext [w5, w6, w7]

end Cert.InprojIdeal.Tile

end
-- ==== Proof.InprojResult.lean ====
/- The seven arrays of the opening block's call: each entry is the one of its token, sequence `n / 2048` and position
   `n % 2048` for row `n`. A tile's widened rows are the rows of its sequence, with zeros past the ends of it. -/
module

public import proofs.«01_k».proof.Proof.InprojArray
public import proofs.«01_k».proof.Proof.FfnResult

@[expose] public section

set_option maxRecDepth 16384

noncomputable section

namespace Cert.InprojIdeal.Tile

open Cert.InprojIdeal Cert.InprojIdeal.Gen Cert.Spec Cert.Ops
open Idealize.ShloMosaic hiding ix1 ix2 ix3 ix4
open Idealize.ShloMosaic.TcCoe Idealize.ShloMosaic.Tactic Idealize.ShloMosaic.ValueIdx
open Cert.FfnIdeal.Tile (Placed widen_placed)

/-- The rotary turn of an entry reads its numbers up to eight lanes further. -/
theorem rotary_congr (p : BitVec 32) (z z' : ℕ → EReal) (n : ℕ) (h : ∀ j, j ≤ n + 8 → z j = z' j) :
    rotary p z n = rotary p z' n := by
  unfold rotary
  rw [h n (by omega), h (n + 8) (by omega), h (n - 8) (by omega)]

variable {B : Blocks} {A : InArrays} {t : ℕ} (h : BlocksOf B A t)

include h

/-- The in-projection of a token's row. -/
theorem zOf_placed (v : Row 1024) (b : Fin 16) (s : Fin 2048) (hv : v = fun d => A.x (ix3 b s d)) (c : ℕ) (hc : c < 3088) :
    B.zOf v c = A.z b s c := by
  unfold Blocks.zOf InArrays.z InArrays.normed
  rw [dif_pos (show c < 3200 by omega), dif_pos hc, hv,
    show (fun d => B.g (ix2 0 d)) = fun d => A.g (ix2 0 d) from funext h.g,
    show (fun k => B.w (ix2 k ⟨c, _⟩)) = fun k => A.w (ix3 0 k ⟨c, hc⟩) from funext fun k => h.w k ⟨c, by omega⟩ hc]

/-- The in-projection of a row of the tile. -/
theorem z_placed (r : Fin 1024) (n : Fin 32768) (hn : n.val = 1024 * t + r.val) (c : ℕ) (hc : c < 3088) :
    B.z r c = A.z (rowSeq n) (rowPos n) c :=
  zOf_placed h _ _ _ (funext fun d => h.x r d n hn) c hc

/-- A query of a row of the tile. -/
theorem q_placed (r : Fin 1024) (n : Fin 32768) (hn : n.val = 1024 * t + r.val) (c : ℕ) (hc : c < 512) :
    B.q r c = A.q (rowSeq n) (rowPos n) c := by
  unfold Blocks.q InArrays.q Blocks.p
  rw [h.pos r n hn, mul_assoc, queryScale_eq,
    rotary_congr _ _ _ c fun j hj => z_placed h r n hn j (by omega)]

/-- A key of a row of the tile. -/
theorem k_placed (r : Fin 1024) (n : Fin 32768) (hn : n.val = 1024 * t + r.val) (c : ℕ) (hc : c < 512) :
    B.k r c = A.k (rowSeq n) (rowPos n) c := by
  unfold Blocks.k InArrays.k Blocks.p
  rw [h.pos r n hn, rotary_congr _ _ _ c fun j hj => z_placed h r n hn (512 + j) (by omega)]

/-- The residual input of a widened row. -/
theorem row_placed (q : Fin 1056) (n : Fin 32768) (hp : Placed t q n) :
    B.row q = fun d => A.x (ix3 (rowSeq n) (rowPos n) d) := by
  unfold Blocks.row
  exact widen_placed _ _ _ (fun n d => A.x (ix3 (rowSeq n) (rowPos n) d)) t
    (fun r n e => funext fun d => h.xPrev r d n e) (fun r n e => funext fun d => h.x r d n e)
    (fun r n e => funext fun d => h.xNext r d n e) q n hp

variable (first last : BitVec 1) (hf : first = 1 ↔ t % 2 = 0) (hl : last = 1 ↔ t % 2 = 1)

include hf hl

/-- The widened rows from the last of the halo before to the first of the halo after are rows of the padded sequence. -/
theorem uPad_placed (ht : t < 32) (q : Fin 1056) (h1 : 15 ≤ q.val) (h2 : q.val ≤ 1040) (k : ℕ)
    (hk : k + 15 = 1024 * (t % 2) + q.val) (c : ℕ) (hc : c < 512) :
    B.uPad first last q c = A.zPad ⟨t / 2, by omega⟩ k (1536 + c) := by
  unfold Blocks.uPad InArrays.zPad
  by_cases e : (q.val < 16 ∧ first = 1) ∨ (1040 ≤ q.val ∧ last = 1)
  · rw [if_pos e, dif_neg]
    rcases e with ⟨e1, e2⟩ | ⟨e1, e2⟩
    · have := hf.1 e2
      omega
    · have := hl.1 e2
      omega
  · have e1 : q.val < 16 → t % 2 = 1 := fun hq => by
      have : ¬ t % 2 = 0 := fun h0 => e (Or.inl ⟨hq, hf.2 h0⟩)
      omega
    have e2 : 1040 ≤ q.val → t % 2 = 0 := fun hq => by
      have : ¬ t % 2 = 1 := fun h0 => e (Or.inr ⟨hq, hl.2 h0⟩)
      omega
    have b1 : 1024 * t + q.val - 16 < 32768 := by
      by_cases hq : 1040 ≤ q.val
      · have := e2 hq
        omega
      · omega
    have hp : Placed t q ⟨1024 * t + q.val - 16, b1⟩ := by
      unfold Placed
      dsimp only
      by_cases c1 : q.val < 16
      · have := e1 c1
        exact Or.inl ⟨c1, by omega⟩
      by_cases c2 : 1040 ≤ q.val
      · have := e2 c2
        exact Or.inr (Or.inr ⟨c2, by omega⟩)
      · exact Or.inr (Or.inl ⟨by omega, by omega, by omega⟩)
    have k1 : 1 ≤ k ∧ k ≤ 2048 := by
      by_cases c1 : q.val < 16
      · have := e1 c1
        omega
      by_cases c2 : 1040 ≤ q.val
      · have := e2 c2
        omega
      · omega
    have s1 : (1024 * t + q.val - 16) / 2048 = t / 2 := by
      by_cases c1 : q.val < 16
      · have := e1 c1
        omega
      by_cases c2 : 1040 ≤ q.val
      · have := e2 c2
        omega
      · omega
    rw [if_neg e, dif_pos k1, zOf_placed h _ _ _ (row_placed h q _ hp) _ (by omega)]
    exact congrArg₂ (fun b s => A.z b s (1536 + c)) (Fin.ext s1)
      (Fin.ext (by show (1024 * t + q.val - 16) % 2048 = k - 1; omega))

variable (ht : t < 32) (r : Fin 1024) (n : Fin 32768) (hn : n.val = 1024 * t + r.val)

include ht hn

/-- The memory's convolved key input of a row of the tile. -/
theorem uc_placed (c : Fin 512) : B.uc first last r c = A.uc (rowSeq n) (rowPos n) c := by
  have hr := r.isLt
  have hb : (⟨t / 2, by omega⟩ : Fin 16) = rowSeq n := Fin.ext (by show t / 2 = n.val / 2048; omega)
  have hp : (rowPos n).val = 1024 * (t % 2) + r.val := by show n.val % 2048 = _; omega
  unfold Blocks.uc InArrays.uc
  rw [uPad_placed h first last hf hl ht ⟨r.val + 15, by omega⟩ (Nat.le_add_left _ _) (by show r.val + 15 ≤ 1040; omega)
      (rowPos n).val (by show _ = _ + (r.val + 15); omega) _ c.isLt,
    uPad_placed h first last hf hl ht ⟨r.val + 16, by omega⟩ (by show 15 ≤ r.val + 16; omega)
      (by show r.val + 16 ≤ 1040; omega) ((rowPos n).val + 1) (by show _ = _ + (r.val + 16); omega) _ c.isLt,
    uPad_placed h first last hf hl ht ⟨r.val + 17, by omega⟩ (by show 15 ≤ r.val + 17; omega)
      (by show r.val + 17 ≤ 1040; omega) ((rowPos n).val + 2) (by show _ = _ + (r.val + 17); omega) _ c.isLt, hb,
    h.cw, h.cw, h.cw, h.cb]

omit h hf hl ht hn

/-! ## The result arrays -/

variable (m : (ℓ : Loc nD τ sig) → Buf (Elt Ideal) ℓ) (c : Dev nD)

/-- The row of token `s` of sequence `b` lies in that sequence. -/
theorem row_seq (b : Fin 16) (s : Fin 2048) (n : Fin 32768) (hn : n.val = 2048 * b.val + s.val) : rowSeq n = b ∧ rowPos n = s :=
  ⟨Fin.ext (by show n.val / 2048 = b.val; omega), Fin.ext (by show n.val % 2048 = s.val; omega)⟩

/-- An array of pairs of heads at an entry of tile `t`: the tile's row `r` is token `1024 * (t % 2) + r` of sequence
    `t / 2`. -/
theorem heads_placed (t : ℕ) (F : Fin 1024 → ℕ → EReal) (G : Fin 16 → Fin 2048 → ℕ → EReal)
    (hFG : ∀ (r : Fin 1024) (n : Fin 32768), n.val = 1024 * t + r.val → ∀ j, j < 512 → F r j = G (rowSeq n) (rowPos n) j)
    (y : S1x4x1024x128.Idx) (e : S16x4x2048x128.Idx) (h0 : (e 0).val = t / 2) (h1 : (e 1).val = (y 1).val)
    (h2 : (e 2).val = t % 2 * 1024 + (y 2).val) (h3 : (e 3).val = (y 3).val) :
    headArr F y = G (e 0) (e 2) (128 * (e 1).val + (e 3).val) := by
  have b0 : (e 0).val < 16 := (e 0).isLt
  have b2 : (y 2).val < 1024 := (y 2).isLt
  have b1 : (y 1).val < 4 := (y 1).isLt
  have b3 : (y 3).val < 128 := (y 3).isLt
  obtain ⟨s1, s2⟩ := row_seq (e 0) (e 2) ⟨1024 * t + (y 2).val, by omega⟩ (by show 1024 * t + (y 2).val = _; omega)
  unfold headArr
  rw [hFG (y 2) ⟨1024 * t + (y 2).val, by omega⟩ rfl _ (by omega), s1, s2, h1, h3]

/-- The queries after the run. -/
theorem q_eq : (dats m 0 c).arrAt 11 cfg0.N = (arrays m c).qOut := by
  refine (dats m 0 c).arrAt_eq_of_covers 11 _ (by decide +kernel) fun t hf y => ?_
  blk_simp
  rw [after0_11, out11_eq m c t (tables_of m c t)]
  refine heads_placed t.val _ (arrays m c).q (fun r n hn j hj => q_placed (blocks_of m c t) r n hn j hj) y _ ?_ ?_ ?_ ?_
  all_goals
    blk_simp
    rw [(index_out t).1]
  · rfl
  · show 0 * 4 + (y 1).val = _
    omega
  · show t.val % 2 * 1024 + (y 2).val = _
    omega
  · show 0 * 128 + (y 3).val = _
    omega

/-- The keys after the run. -/
theorem k_eq : (dats m 0 c).arrAt 12 cfg0.N = (arrays m c).kOut := by
  refine (dats m 0 c).arrAt_eq_of_covers 12 _ (by decide +kernel) fun t hf y => ?_
  blk_simp
  rw [after0_12, out12_eq m c t (tables_of m c t)]
  refine heads_placed t.val _ (arrays m c).k (fun r n hn j hj => k_placed (blocks_of m c t) r n hn j hj) y _ ?_ ?_ ?_ ?_
  all_goals
    blk_simp
    rw [(index_out t).2.1]
  · rfl
  · show 0 * 4 + (y 1).val = _
    omega
  · show t.val % 2 * 1024 + (y 2).val = _
    omega
  · show 0 * 128 + (y 3).val = _
    omega

/-- The values after the run. -/
theorem v_eq : (dats m 0 c).arrAt 13 cfg0.N = (arrays m c).vOut := by
  refine (dats m 0 c).arrAt_eq_of_covers 13 _ (by decide +kernel) fun t hf y => ?_
  blk_simp
  rw [after0_13, out13_eq m c t]
  refine heads_placed t.val _ (fun b s j => (arrays m c).z b s (1024 + j)) (fun r n hn j hj => z_placed (blocks_of m c t) r n hn _ (by omega)) y _ ?_ ?_ ?_ ?_
  all_goals
    blk_simp
    rw [(index_out t).2.2.1]
  · rfl
  · show 0 * 4 + (y 1).val = _
    omega
  · show t.val % 2 * 1024 + (y 2).val = _
    omega
  · show 0 * 128 + (y 3).val = _
    omega

/-- The memory's convolved key input after the run. -/
theorem uc_eq : (dats m 0 c).arrAt 14 cfg0.N = (arrays m c).ucOut := by
  refine (dats m 0 c).arrAt_eq_of_covers 14 _ (by decide +kernel) fun t hf y => ?_
  blk_simp
  rw [after0_14, out14_eq m c t]
  have h0 : ((win0_14.blk t).view.emb y 0 : ℕ) = 1024 * t.val + (y 0).val := by
    blk_simp
    rw [(index_out t).2.2.2.1]
    show t.val * 1024 + (y 0).val = _
    omega
  have h1 : ((win0_14.blk t).view.emb y 1 : ℕ) = (y 1).val := by
    blk_simp
    rw [(index_out t).2.2.2.1]
    show 0 * 512 + (y 1).val = _
    omega
  have b1 : (y 1).val < 512 := (y 1).isLt
  unfold InArrays.ucOut
  dsimp only
  exact (uc_placed (blocks_of m c t) _ _ (first_last t).1 (first_last t).2 t.isLt (y 0) _ h0 (y 1)).trans
    (congrArg _ (Fin.ext h1.symm))

/-- The memory's values after the run. -/
theorem vm_eq : (dats m 0 c).arrAt 15 cfg0.N = (arrays m c).vmOut := by
  refine (dats m 0 c).arrAt_eq_of_covers 15 _ (by decide +kernel) fun t hf y => ?_
  blk_simp
  rw [after0_15, out15_eq m c t]
  have h0 : ((win0_15.blk t).view.emb y 0 : ℕ) = 1024 * t.val + (y 0).val := by
    blk_simp
    rw [(index_out t).2.2.2.2.1]
    show t.val * 1024 + (y 0).val = _
    omega
  have h1 : ((win0_15.blk t).view.emb y 1 : ℕ) = (y 1).val := by
    blk_simp
    rw [(index_out t).2.2.2.2.1]
    show 0 * 512 + (y 1).val = _
    omega
  have b1 : (y 1).val < 512 := (y 1).isLt
  unfold InArrays.vmOut
  dsimp only
  rw [z_placed (blocks_of m c t) (y 0) _ h0 _ (by omega), h1]

/-- The memory's output gates after the run. -/
theorem og_eq : (dats m 0 c).arrAt 16 cfg0.N = (arrays m c).ogOut := by
  refine (dats m 0 c).arrAt_eq_of_covers 16 _ (by decide +kernel) fun t hf y => ?_
  blk_simp
  rw [after0_16, out16_eq m c t]
  have h0 : ((win0_16.blk t).view.emb y 0 : ℕ) = 1024 * t.val + (y 0).val := by
    blk_simp
    rw [(index_out t).2.2.2.2.2.1]
    show t.val * 1024 + (y 0).val = _
    omega
  have h1 : ((win0_16.blk t).view.emb y 1 : ℕ) = (y 1).val := by
    blk_simp
    rw [(index_out t).2.2.2.2.2.1]
    show 0 * 512 + (y 1).val = _
    omega
  have b1 : (y 1).val < 512 := (y 1).isLt
  unfold InArrays.ogOut
  dsimp only
  rw [z_placed (blocks_of m c t) (y 0) _ h0 _ (by omega), h1]

/-- The memory's input and forget gates before their activations, after the run. -/
theorem gate_eq : (dats m 0 c).arrAt 17 cfg0.N = (arrays m c).gateOut := by
  refine (dats m 0 c).arrAt_eq_of_covers 17 _ (by decide +kernel) fun t hf y => ?_
  blk_simp
  rw [after0_17, out17_eq m c t]
  have h0 : ((win0_17.blk t).view.emb y 0 : ℕ) = (y 0).val := by
    blk_simp
    rw [(index_out t).2.2.2.2.2.2]
    show 0 * 16 + (y 0).val = _
    omega
  have h1 : ((win0_17.blk t).view.emb y 1 : ℕ) = 1024 * t.val + (y 1).val := by
    blk_simp
    rw [(index_out t).2.2.2.2.2.2]
    show t.val * 1024 + (y 1).val = _
    omega
  have b0 : (y 0).val < 16 := (y 0).isLt
  unfold InArrays.gateOut
  dsimp only
  rw [z_placed (blocks_of m c t) (y 1) _ h1 _ (by omega), h0]

end Cert.InprojIdeal.Tile

end
-- ==== Proof.InprojReference.lean ====
/- The plain-mathematics reference of the opening block computes the seven arrays of `InArrays`: every buffer of its run
   that a result passes through, read at a token and a column. -/
module

public import proofs.«01_k».proof.Proof.Gen.InprojRefIdeal.Read
public import proofs.«01_k».proof.Proof.InprojLayer
public import Idealize.ShloMosaic.Lib.KernelVsHost

@[expose] public section

noncomputable section

namespace Cert.InprojRefIdeal.Math

open Cert.InprojRefIdeal Cert.InprojRefIdeal.Gen Cert.InprojRefIdeal.Read Cert.Spec
open Idealize.ShloMosaic Idealize.ShloMosaic.ValueIdx

variable (A : InArrays)

/-- The constant zero. -/
theorem zero_word : (FloatOps.ofBits .f32 0x00000000#32 : Ideal .f32) = 0 := Ideal.ofBits_zero_f32

/-- The scale of the norm. -/
theorem scale_at (b : Fin 16) (s : Fin 2048) (z : Fin 1) :
    val_main_v8 (F := Ideal) A.x (ix3 b s z) = scale fun d => A.x (ix3 b s d) := by
  rw [val_main_v8_apply, val_main_v7_apply, val_main_v5_apply, val_main_v3_apply, val_main_v2_apply,
    val_main_v4_apply, val_main_v6_apply, val_main_cst_apply, val_main_cst_0_apply, val_main_cst_1_apply, zero_word,
    zero_add]
  show Ideal.rsqrt (Ideal.div _ len + eps) = _
  rw [div_len]
  refine congrArg (fun t => Ideal.rsqrt (t * invLen + eps)) (Finset.sum_congr rfl fun k _ => ?_)
  rw [val_main_v1_apply, ix3_of (idx_main_v2 (idx_main_v3 (ix3 b s z)) k) b s k rfl rfl rfl]
  rfl

/-- The normed row. -/
theorem normed_at (b : Fin 16) (s : Fin 2048) (d : Fin 1024) :
    val_main_v13 (F := Ideal) A.x A.g (ix3 b s d) = A.normed b s d := by
  rw [val_main_v13_apply, val_main_v10_apply, val_main_v9_apply, val_main_v12_apply, val_main_v11_apply,
    val_main_v0_apply, ix3_of (idx_main_v9 (ix3 b s d)) b s 0 rfl rfl rfl, scale_at]
  exact congrArg (A.x (ix3 b s d) * scale (fun d => A.x (ix3 b s d)) * A.g ·) (ix2_of _ 0 d rfl (Nat.mod_eq_of_lt d.isLt))

/-- The in-projection of one token and column. -/
theorem z_at (b : Fin 16) (s : Fin 2048) (j : Fin 3088) :
    val_main_v15 (F := Ideal) A.x A.g A.w (ix3 b s j) = A.z b s j.val := by
  rw [val_main_v15_apply]
  unfold InArrays.z
  rw [dif_pos j.isLt]
  refine Finset.sum_congr rfl fun k _ => ?_
  rw [ix3_of (lidx_main_v15 (ix3 b s j) k) b s k rfl rfl rfl, normed_at, val_main_v14_apply]
  exact congrArg (A.normed b s k * A.w ·) (ix3_of _ 0 k j rfl (split_hi k.isLt j.isLt) (split_lo j.isLt))

/-- The in-projection read at any index of its buffer. -/
theorem z_of (i : S16x2048x3088.Idx) (b : Fin 16) (s : Fin 2048) (n : ℕ) (h0 : (i 0).val = b.val) (h1 : (i 1).val = s.val)
    (h2 : (i 2).val = n) : val_main_v15 (F := Ideal) A.x A.g A.w i = A.z b s n := by
  subst h2
  rw [ix3_of i b s (i 2) h0 h1 rfl]
  exact z_at A b s (i 2)

/-- The query columns by head and lane. -/
theorem qz_at (b : Fin 16) (s : Fin 2048) (h : Fin 8) (l : Fin 64) :
    val_main_v17 (F := Ideal) A.x A.g A.w (ix4 b s h l) = A.z b s (64 * h.val + l.val) := by
  rw [val_main_v17_apply, val_main_v16_apply]
  have := b.isLt; have := s.isLt; have := h.isLt; have := l.isLt
  refine z_of A _ b s _ ?_ ?_ ?_
  · show (((b.val * 2048 + s.val) * 8 + h.val) * 64 + l.val) / 1048576 = b.val; omega
  · show (((b.val * 2048 + s.val) * 8 + h.val) * 64 + l.val) / 512 % 2048 = s.val; omega
  · show (((b.val * 2048 + s.val) * 8 + h.val) * 64 + l.val) % 512 = _; omega

/-- The key columns by head and lane. -/
theorem kz_at (b : Fin 16) (s : Fin 2048) (h : Fin 8) (l : Fin 64) :
    val_main_v19 (F := Ideal) A.x A.g A.w (ix4 b s h l) = A.z b s (512 + (64 * h.val + l.val)) := by
  rw [val_main_v19_apply, val_main_v18_apply]
  have := b.isLt; have := s.isLt; have := h.isLt; have := l.isLt
  refine z_of A _ b s _ ?_ ?_ ?_
  · show (((b.val * 2048 + s.val) * 8 + h.val) * 64 + l.val) / 1048576 = b.val; omega
  · show (((b.val * 2048 + s.val) * 8 + h.val) * 64 + l.val) / 512 % 2048 = s.val; omega
  · show 512 + (((b.val * 2048 + s.val) * 8 + h.val) * 64 + l.val) % 512 = _; omega

/-- The value columns by head and lane. -/
theorem vz_at (b : Fin 16) (s : Fin 2048) (h : Fin 8) (l : Fin 64) :
    val_main_v21 (F := Ideal) A.x A.g A.w (ix4 b s h l) = A.z b s (1024 + (64 * h.val + l.val)) := by
  rw [val_main_v21_apply, val_main_v20_apply]
  have := b.isLt; have := s.isLt; have := h.isLt; have := l.isLt
  refine z_of A _ b s _ ?_ ?_ ?_
  · show (((b.val * 2048 + s.val) * 8 + h.val) * 64 + l.val) / 1048576 = b.val; omega
  · show (((b.val * 2048 + s.val) * 8 + h.val) * 64 + l.val) / 512 % 2048 = s.val; omega
  · show 1024 + (((b.val * 2048 + s.val) * 8 + h.val) * 64 + l.val) % 512 = _; omega

/-- The rotary angle of a token and a pair of lanes. -/
theorem angle_at (b : Fin 16) (s : Fin 2048) (i : Fin 8) :
    val_main_v41 (F := Ideal) A.pos (ix3 b s i) = angle (A.pos (ix2 b s)) i.val := by
  rw [val_main_v41_apply, val_main_v39_apply, val_main_v37_apply, val_main_v36_apply, val_main_v40_apply,
    val_main_v38_apply, val_main_v35_apply, val_main_v34_apply, val_main_v33_apply, val_main_v32_apply,
    val_main_v31_apply, val_main_v30_apply, val_main_v29_apply, val_main_v28_apply, val_main_v27_apply,
    val_main_cst_2_apply, val_main_cst_3_apply, val_main_cst_4_apply, val_main_cst_5_apply,
    ix2_of (idx_main_v37 (idx_main_v39 (ix3 b s i))) b s rfl rfl]
  have hi : (BitVec.ofNat 32 i.val).toInt = (i.val : ℤ) := by
    have := i.isLt
    interval_cases h : i.val <;> decide
  show ((((A.pos (ix2 b s)).toInt : ℝ)) : EReal) * Ideal.pow ropeBase (Ideal.div (-(zeroW + two *
    ((((BitVec.ofNat 32 i.val).toInt : ℝ)) : EReal))) ropeLen) = _
  rw [hi]
  rfl

/-- The cosines, copied to every head. -/
theorem cos_at (b : Fin 16) (s : Fin 2048) (j : S16x2048x1x8.Idx) (i : Fin 8) (h0 : (j 0).val = b.val)
    (h1 : (j 1).val = s.val) (h3 : (j 3).val = i.val) :
    val_main_v43 (F := Ideal) A.pos j = Ideal.cos (angle (A.pos (ix2 b s)) i.val) := by
  rw [val_main_v43_apply, val_main_v42_apply, ix3_of (idx_main_v43 j) b s i h0 h1 h3, angle_at]
  rfl

/-- The sines, copied to every head. -/
theorem sin_at (b : Fin 16) (s : Fin 2048) (j : S16x2048x1x8.Idx) (i : Fin 8) (h0 : (j 0).val = b.val)
    (h1 : (j 1).val = s.val) (h3 : (j 3).val = i.val) :
    val_main_v45 (F := Ideal) A.pos j = Ideal.sin (angle (A.pos (ix2 b s)) i.val) := by
  rw [val_main_v45_apply, val_main_v44_apply, ix3_of (idx_main_v45 j) b s i h0 h1 h3, angle_at]
  rfl

/-- Three pieces of a head's lanes joined. -/
theorem joined (P Q : S16x2048x8x8.Idx → EReal) (R : S16x2048x8x48.Idx → EReal)
    (hc : Shape.Concatenates [S16x2048x8x8, S16x2048x8x8, S16x2048x8x48] S16x2048x8x64 3)
    (b : Fin 16) (s : Fin 2048) (h : Fin 8) (l : Fin 64) :
    concatenate S16x2048x8x64 3 [⟨S16x2048x8x8, P⟩, ⟨S16x2048x8x8, Q⟩, ⟨S16x2048x8x48, R⟩] hc (ix4 b s h l)
      = if h8 : l.val < 8 then P (ix4 b s h ⟨l.val, h8⟩)
        else if h16 : l.val < 16 then Q (ix4 b s h ⟨l.val - 8, by omega⟩) else R (ix4 b s h ⟨l.val - 16, by omega⟩) := by
  by_cases h8 : l.val < 8
  · rw [dif_pos h8]
    refine concatenate_apply_piece (t := S16x2048x8x64) (3 : Fin 4) [⟨S16x2048x8x8, P⟩, ⟨S16x2048x8x8, Q⟩, ⟨S16x2048x8x48, R⟩] hc (ix4 b s h l) 0 (by show 0 < 3; decide) S16x2048x8x8 P rfl rfl 0 rfl
      (ix4 b s h ⟨l.val, h8⟩) (fun a ha => ?_) (Nat.zero_add _)
    match a, ha with
    | ⟨0, _⟩, _ => rfl
    | ⟨1, _⟩, _ => rfl
    | ⟨2, _⟩, _ => rfl
    | ⟨3, _⟩, ha => exact absurd rfl ha
  · rw [dif_neg h8]
    by_cases h16 : l.val < 16
    · rw [dif_pos h16]
      refine concatenate_apply_piece (t := S16x2048x8x64) (3 : Fin 4) [⟨S16x2048x8x8, P⟩, ⟨S16x2048x8x8, Q⟩, ⟨S16x2048x8x48, R⟩] hc (ix4 b s h l) 1 (by show 1 < 3; decide) S16x2048x8x8 Q rfl rfl 8 rfl
        (ix4 b s h ⟨l.val - 8, by omega⟩) (fun a ha => ?_) (by show 8 + (l.val - 8) = l.val; omega)
      match a, ha with
      | ⟨0, _⟩, _ => rfl
      | ⟨1, _⟩, _ => rfl
      | ⟨2, _⟩, _ => rfl
      | ⟨3, _⟩, ha => exact absurd rfl ha
    · rw [dif_neg h16]
      refine concatenate_apply_piece (t := S16x2048x8x64) (3 : Fin 4) [⟨S16x2048x8x8, P⟩, ⟨S16x2048x8x8, Q⟩, ⟨S16x2048x8x48, R⟩] hc (ix4 b s h l) 2 (by show 2 < 3; decide) S16x2048x8x48 R rfl rfl 16 rfl
        (ix4 b s h ⟨l.val - 16, by omega⟩) (fun a ha => ?_) (by show 16 + (l.val - 16) = l.val; omega)
      match a, ha with
      | ⟨0, _⟩, _ => rfl
      | ⟨1, _⟩, _ => rfl
      | ⟨2, _⟩, _ => rfl
      | ⟨3, _⟩, ha => exact absurd rfl ha

/-- The queries turned. -/
theorem qrot_at (b : Fin 16) (s : Fin 2048) (h : Fin 8) (l : Fin 64) :
    val_main_v59 (F := Ideal) A.x A.pos A.g A.w (ix4 b s h l) = rotary (A.pos (ix2 b s)) (A.z b s) (64 * h.val + l.val) := by
  unfold val_main_v59 rotary
  have hl := l.isLt
  have e : (64 * h.val + l.val) % 64 = l.val := by omega
  rw [joined, e]
  by_cases h8 : l.val < 8
  · rw [dif_pos h8, if_pos h8, val_main_v52_apply, val_main_v49_apply, val_main_v51_apply, val_main_v46_apply,
      val_main_v47_apply, val_main_v48_apply, val_main_v50_apply,
      ix4_of (idx_main_v46 (ix4 b s h ⟨l.val, h8⟩)) b s h ⟨l.val, hl⟩ rfl rfl rfl rfl,
      ix4_of (idx_main_v47 (ix4 b s h ⟨l.val, h8⟩)) b s h ⟨8 + l.val, by omega⟩ rfl rfl rfl rfl,
      cos_at A b s _ ⟨l.val, h8⟩ rfl rfl rfl, sin_at A b s _ ⟨l.val, h8⟩ rfl rfl rfl, qz_at, qz_at,
      show 64 * h.val + (8 + l.val) = 64 * h.val + l.val + 8 by omega]
    rfl
  · rw [dif_neg h8, if_neg h8]
    by_cases h16 : l.val < 16
    · rw [dif_pos h16, if_pos h16, val_main_v57_apply, val_main_v54_apply, val_main_v56_apply, val_main_v46_apply,
        val_main_v47_apply, val_main_v53_apply, val_main_v55_apply,
        ix4_of (idx_main_v46 (ix4 b s h ⟨l.val - 8, by omega⟩)) b s h ⟨l.val - 8, by omega⟩ rfl rfl rfl rfl,
        ix4_of (idx_main_v47 (ix4 b s h ⟨l.val - 8, by omega⟩)) b s h ⟨l.val, hl⟩ rfl rfl rfl
          (by show 8 + (l.val - 8) = l.val; omega),
        cos_at A b s _ ⟨l.val - 8, by omega⟩ rfl rfl rfl, sin_at A b s _ ⟨l.val - 8, by omega⟩ rfl rfl rfl, qz_at, qz_at,
        show 64 * h.val + (l.val - 8) = 64 * h.val + l.val - 8 by omega]
      rfl
    · rw [dif_neg h16, if_neg h16, val_main_v58_apply,
        ix4_of (idx_main_v58 (ix4 b s h ⟨l.val - 16, by omega⟩)) b s h ⟨l.val, hl⟩ rfl rfl rfl
          (by show 16 + (l.val - 16) = l.val; omega), qz_at]

/-- The cosines are formed twice, alike. -/
theorem cos_twice (p : S16x2048.Idx → BitVec 32) : val_main_v81 (F := Ideal) p = val_main_v43 (F := Ideal) p := rfl

/-- The sines are formed twice, alike. -/
theorem sin_twice (p : S16x2048.Idx → BitVec 32) : val_main_v83 (F := Ideal) p = val_main_v45 (F := Ideal) p := rfl

/-- The keys turned. -/
theorem krot_at (b : Fin 16) (s : Fin 2048) (h : Fin 8) (l : Fin 64) :
    val_main_v97 (F := Ideal) A.x A.pos A.g A.w (ix4 b s h l)
      = A.k b s (64 * h.val + l.val) := by
  unfold val_main_v97 InArrays.k rotary
  have hl := l.isLt
  have e : (64 * h.val + l.val) % 64 = l.val := by omega
  rw [joined, e]
  by_cases h8 : l.val < 8
  · rw [dif_pos h8, if_pos h8, val_main_v90_apply, val_main_v87_apply, val_main_v89_apply, val_main_v84_apply,
      val_main_v85_apply, val_main_v86_apply, val_main_v88_apply, cos_twice, sin_twice,
      ix4_of (idx_main_v84 (ix4 b s h ⟨l.val, h8⟩)) b s h ⟨l.val, hl⟩ rfl rfl rfl rfl,
      ix4_of (idx_main_v85 (ix4 b s h ⟨l.val, h8⟩)) b s h ⟨8 + l.val, by omega⟩ rfl rfl rfl rfl,
      cos_at A b s _ ⟨l.val, h8⟩ rfl rfl rfl, sin_at A b s _ ⟨l.val, h8⟩ rfl rfl rfl, kz_at, kz_at,
      show 64 * h.val + (8 + l.val) = 64 * h.val + l.val + 8 by omega]
    rfl
  · rw [dif_neg h8, if_neg h8]
    by_cases h16 : l.val < 16
    · rw [dif_pos h16, if_pos h16, val_main_v95_apply, val_main_v92_apply, val_main_v94_apply, val_main_v84_apply,
        val_main_v85_apply, val_main_v91_apply, val_main_v93_apply, cos_twice, sin_twice,
        ix4_of (idx_main_v84 (ix4 b s h ⟨l.val - 8, by omega⟩)) b s h ⟨l.val - 8, by omega⟩ rfl rfl rfl rfl,
        ix4_of (idx_main_v85 (ix4 b s h ⟨l.val - 8, by omega⟩)) b s h ⟨l.val, hl⟩ rfl rfl rfl
          (by show 8 + (l.val - 8) = l.val; omega),
        cos_at A b s _ ⟨l.val - 8, by omega⟩ rfl rfl rfl, sin_at A b s _ ⟨l.val - 8, by omega⟩ rfl rfl rfl, kz_at, kz_at,
        show 64 * h.val + (l.val - 8) = 64 * h.val + l.val - 8 by omega]
      rfl
    · rw [dif_neg h16, if_neg h16, val_main_v96_apply,
        ix4_of (idx_main_v96 (ix4 b s h ⟨l.val - 16, by omega⟩)) b s h ⟨l.val, hl⟩ rfl rfl rfl
          (by show 16 + (l.val - 16) = l.val; omega), kz_at]

/-- The query result: sequence, pair of heads, token, lane. -/
theorem q_read (b : Fin 16) (h : Fin 4) (s : Fin 2048) (l : Fin 128) :
    val_main_v126 (F := Ideal) A.x A.pos A.g A.w (ix4 b h s l) = A.qOut (ix4 b h s l) := by
  have := b.isLt
  have := h.isLt
  have := s.isLt
  have := l.isLt
  rw [val_main_v126_apply, val_main_v125_apply, val_main_v63_apply, val_main_v61_apply, val_main_v60_apply,
    val_main_v62_apply, val_main_cst_6_apply, val_main_cst_7_apply,
    ix4_of (idx_main_v125 (idx_main_v126 (ix4 b h s l))) b s ⟨2 * h.val + l.val / 64, by omega⟩
      ⟨l.val % 64, by omega⟩
      (by show (((b.val * 2048 + s.val) * 4 + h.val) * 128 + l.val) / 1048576 = b.val; omega)
      (by show (((b.val * 2048 + s.val) * 4 + h.val) * 128 + l.val) / 512 % 2048 = s.val; omega)
      (by show (((b.val * 2048 + s.val) * 4 + h.val) * 128 + l.val) / 64 % 8 = 2 * h.val + l.val / 64; omega)
      (by show (((b.val * 2048 + s.val) * 4 + h.val) * 128 + l.val) % 64 = l.val % 64; omega), qrot_at,
    show 64 * (2 * h.val + l.val / 64) + l.val % 64 = 128 * h.val + l.val by omega]
  rfl

/-- The query result as an array. -/
theorem q_result : val_main_v126 (F := Ideal) A.x A.pos A.g A.w = A.qOut := by
  funext y
  rw [eq_ix4 y]
  exact q_read A (y 0) (y 1) (y 2) (y 3)

/-- The key result, laid out like the queries. -/
theorem k_read (b : Fin 16) (h : Fin 4) (s : Fin 2048) (l : Fin 128) :
    val_main_v128 (F := Ideal) A.x A.pos A.g A.w (ix4 b h s l) = A.kOut (ix4 b h s l) := by
  have := b.isLt
  have := h.isLt
  have := s.isLt
  have := l.isLt
  rw [val_main_v128_apply, val_main_v127_apply,
    ix4_of (idx_main_v127 (idx_main_v128 (ix4 b h s l))) b s ⟨2 * h.val + l.val / 64, by omega⟩
      ⟨l.val % 64, by omega⟩
      (by show (((b.val * 2048 + s.val) * 4 + h.val) * 128 + l.val) / 1048576 = b.val; omega)
      (by show (((b.val * 2048 + s.val) * 4 + h.val) * 128 + l.val) / 512 % 2048 = s.val; omega)
      (by show (((b.val * 2048 + s.val) * 4 + h.val) * 128 + l.val) / 64 % 8 = 2 * h.val + l.val / 64; omega)
      (by show (((b.val * 2048 + s.val) * 4 + h.val) * 128 + l.val) % 64 = l.val % 64; omega), krot_at,
    show 64 * (2 * h.val + l.val / 64) + l.val % 64 = 128 * h.val + l.val by omega]
  rfl

/-- The key result as an array. -/
theorem k_result : val_main_v128 (F := Ideal) A.x A.pos A.g A.w = A.kOut := by
  funext y
  rw [eq_ix4 y]
  exact k_read A (y 0) (y 1) (y 2) (y 3)

/-- The value result, laid out like the queries. -/
theorem v_read (b : Fin 16) (h : Fin 4) (s : Fin 2048) (l : Fin 128) :
    val_main_v130 (F := Ideal) A.x A.g A.w (ix4 b h s l) = A.vOut (ix4 b h s l) := by
  have := b.isLt
  have := h.isLt
  have := s.isLt
  have := l.isLt
  rw [val_main_v130_apply, val_main_v129_apply,
    ix4_of (idx_main_v129 (idx_main_v130 (ix4 b h s l))) b s ⟨2 * h.val + l.val / 64, by omega⟩
      ⟨l.val % 64, by omega⟩
      (by show (((b.val * 2048 + s.val) * 4 + h.val) * 128 + l.val) / 1048576 = b.val; omega)
      (by show (((b.val * 2048 + s.val) * 4 + h.val) * 128 + l.val) / 512 % 2048 = s.val; omega)
      (by show (((b.val * 2048 + s.val) * 4 + h.val) * 128 + l.val) / 64 % 8 = 2 * h.val + l.val / 64; omega)
      (by show (((b.val * 2048 + s.val) * 4 + h.val) * 128 + l.val) % 64 = l.val % 64; omega), vz_at,
    show 64 * (2 * h.val + l.val / 64) + l.val % 64 = 128 * h.val + l.val by omega]
  rfl

/-- The value result as an array. -/
theorem v_result : val_main_v130 (F := Ideal) A.x A.g A.w = A.vOut := by
  funext y
  rw [eq_ix4 y]
  exact v_read A (y 0) (y 1) (y 2) (y 3)

/-- The padded memory input: zeros before the first token and after the last. -/
theorem padded_at (b : Fin 16) (n : Fin 2050) (j : Fin 512) :
    val_main_v100 (F := Ideal) A.x A.g A.w (ix3 b n j) = A.zPad b n.val (1536 + j.val) := by
  unfold val_main_v100 InArrays.zPad
  by_cases h : 1 ≤ n.val ∧ n.val ≤ 2048
  · rw [dif_pos h, pad_apply_of_inside _ _ _ _ _ _ _ _ (ix3 b ⟨n.val - 1, by omega⟩ j) fun a => ?_, val_main_v22_apply]
    · exact z_of A _ b ⟨n.val - 1, by omega⟩ _ rfl rfl rfl
    match a with
    | ⟨0, _⟩ => show b.val = 0 + b.val * (0 + 1); omega
    | ⟨1, _⟩ => show n.val = 1 + (n.val - 1) * (0 + 1); omega
    | ⟨2, _⟩ => show j.val = 0 + j.val * (0 + 1); omega
  · rw [dif_neg h, pad_apply_of_not_inside _ _ _ _ _ _ _ _ (1 : Fin 3) ?_, val_main_call0_v0_apply, val_main_c_apply]
    · show ((((0#32 : BitVec 32).toInt : ℝ)) : EReal) = 0
      simp
    · show ¬(1 ≤ n.val ∧ (n.val - 1) % (0 + 1) = 0 ∧ (n.val - 1) / (0 + 1) < 2048)
      omega

/-- The convolved memory input of one token and column. -/
theorem conv_at (b : Fin 16) (s : Fin 2048) (j : Fin 512) :
    val_main_v123 (F := Ideal) A.x A.g A.w A.cw A.cb (ix3 b s j)
      = conv (A.zPad b s.val (1536 + j.val)) (A.zPad b (s.val + 1) (1536 + j.val)) (A.zPad b (s.val + 2) (1536 + j.val))
        (A.cw (ix3 0 0 j)) (A.cw (ix3 0 1 j)) (A.cw (ix3 0 2 j)) (A.cb (ix2 0 j)) := by
  rw [val_main_v123_apply, val_main_v120_apply, val_main_v113_apply, val_main_v106_apply, val_main_v112_apply,
    val_main_v119_apply, val_main_v101_apply, val_main_v107_apply, val_main_v114_apply,
    ix3_of (idx_main_v101 (ix3 b s j)) b ⟨s.val, by omega⟩ j rfl rfl rfl,
    ix3_of (idx_main_v107 (ix3 b s j)) b ⟨s.val + 1, by omega⟩ j rfl (Nat.add_comm _ _) rfl,
    ix3_of (idx_main_v114 (ix3 b s j)) b ⟨s.val + 2, by omega⟩ j rfl (Nat.add_comm _ _) rfl,
    padded_at, padded_at, padded_at,
    val_main_v105_apply, val_main_v104_apply, val_main_v103_apply, val_main_v102_apply, val_main_v98_apply,
    val_main_v111_apply, val_main_v110_apply, val_main_v109_apply, val_main_v108_apply, val_main_v98_apply,
    val_main_v118_apply, val_main_v117_apply, val_main_v116_apply, val_main_v115_apply, val_main_v98_apply,
    val_main_v122_apply, val_main_v121_apply, val_main_v99_apply]
  have hj := j.isLt
  have e0 : idx_main_v98 (idx_main_v102 (idx_main_v103 (idx_main_v104 (idx_main_v105 (ix3 b s j))))) = ix3 0 0 j :=
    ix3_of _ 0 0 j rfl (by show (0 * 512 + j.val % 512) / 512 % 3 = 0; omega)
      (by show (0 * 512 + j.val % 512) % 512 = j.val; omega)
  have e1 : idx_main_v98 (idx_main_v108 (idx_main_v109 (idx_main_v110 (idx_main_v111 (ix3 b s j))))) = ix3 0 1 j :=
    ix3_of _ 0 1 j rfl (by show ((1 + 0) * 512 + j.val % 512) / 512 % 3 = 1; omega)
      (by show ((1 + 0) * 512 + j.val % 512) % 512 = j.val; omega)
  have e2 : idx_main_v98 (idx_main_v115 (idx_main_v116 (idx_main_v117 (idx_main_v118 (ix3 b s j))))) = ix3 0 2 j :=
    ix3_of _ 0 2 j rfl (by show ((2 + 0) * 512 + j.val % 512) / 512 % 3 = 2; omega)
      (by show ((2 + 0) * 512 + j.val % 512) % 512 = j.val; omega)
  have e3 : idx_main_v99 (idx_main_v121 (idx_main_v122 (ix3 b s j))) = ix2 0 j :=
    ix2_of _ 0 j rfl (Nat.mod_eq_of_lt hj)
  rw [e0, e1, e2, e3]
  rfl

/-- The memory's convolved key input of one token and column. -/
theorem uc_at (b : Fin 16) (s : Fin 2048) (j : Fin 512) :
    val_main_v124 (F := Ideal) A.x A.g A.w A.cw A.cb (ix3 b s j) = A.uc b s j := by
  rw [val_main_v124_apply, val_main_call1_v5_apply, val_main_call1_v4_apply, val_main_call1_v3_apply,
    val_main_call1_v2_apply, val_main_call1_v1_apply, val_main_call1_v0_apply, val_main_call1_cst_apply,
    val_main_call1_cst_0_apply, conv_at]
  show _ * Ideal.div one (one + Ideal.exp (-_)) = _
  rw [one_eq]
  rfl

/-- The memory's convolved key input, one row per token. -/
theorem uc_read (n : Fin 32768) (j : Fin 512) :
    val_main_v132 (F := Ideal) A.x A.g A.w A.cw A.cb (ix2 n j) = A.ucOut (ix2 n j) := by
  have := n.isLt
  have := j.isLt
  rw [val_main_v132_apply, val_main_v131_apply, ix3_of (idx_main_v131 (ix2 n j)) (rowSeq n) (rowPos n) j
    (by show (n.val * 512 + j.val) / 1048576 = n.val / 2048; omega)
    (by show (n.val * 512 + j.val) / 512 % 2048 = n.val % 2048; omega)
    (by show (n.val * 512 + j.val) % 512 = j.val; omega), uc_at]
  rfl

/-- The convolved key input as an array. -/
theorem uc_result : val_main_v132 (F := Ideal) A.x A.g A.w A.cw A.cb = A.ucOut := by
  funext y
  rw [eq_ix2 y]
  exact uc_read A (y 0) (y 1)

/-- The memory's values, one row per token. -/
theorem vm_result : val_main_v134 (F := Ideal) A.x A.g A.w = A.vmOut := by
  funext y
  have h0 : (y 0).val < 32768 := (y 0).isLt
  have h1 : (y 1).val < 512 := (y 1).isLt
  rw [val_main_v134_apply, val_main_v133_apply, val_main_v23_apply]
  refine z_of A _ _ _ _ ?_ ?_ ?_
  · show ((y 0).val * 512 + (y 1).val) / 1048576 = (y 0).val / 2048; omega
  · show ((y 0).val * 512 + (y 1).val) / 512 % 2048 = (y 0).val % 2048; omega
  · show 2048 + ((y 0).val * 512 + (y 1).val) % 512 = 2048 + (y 1).val; omega

/-- The memory's output gates, one row per token. -/
theorem og_result : val_main_v141 (F := Ideal) A.x A.g A.w = A.ogOut := by
  funext y
  have h0 : (y 0).val < 32768 := (y 0).isLt
  have h1 : (y 1).val < 512 := (y 1).isLt
  rw [val_main_v141_apply, val_main_v140_apply, val_main_v139_apply, val_main_v138_apply, val_main_v137_apply,
    val_main_v136_apply, val_main_v135_apply, val_main_cst_12_apply, val_main_cst_13_apply, val_main_v24_apply,
    z_of A (idx_main_v24 (idx_main_v141 y)) (rowSeq (y 0)) (rowPos (y 0)) (2560 + (y 1).val)
      (by show ((y 0).val * 512 + (y 1).val) / 1048576 = (y 0).val / 2048; omega)
      (by show ((y 0).val * 512 + (y 1).val) / 512 % 2048 = (y 0).val % 2048; omega)
      (by show 2560 + ((y 0).val * 512 + (y 1).val) % 512 = 2560 + (y 1).val; omega)]
  show Ideal.div one (one + Ideal.exp (-_)) = _
  rw [one_eq]
  rfl

/-- The memory's input and forget gates, one column per token. -/
theorem gate_result : val_main_v143 (F := Ideal) A.x A.g A.w = A.gateOut := by
  funext y
  have h0 : (y 0).val < 16 := (y 0).isLt
  have h1 : (y 1).val < 32768 := (y 1).isLt
  rw [val_main_v143_apply, val_main_v142_apply, val_main_v25_apply]
  refine z_of A _ _ _ _ ?_ ?_ ?_
  · show ((y 1).val * 16 + (y 0).val) / 32768 = (y 1).val / 2048; omega
  · show ((y 1).val * 16 + (y 0).val) / 16 % 2048 = (y 1).val % 2048; omega
  · show 3072 + ((y 1).val * 16 + (y 0).val) % 16 = 3072 + (y 0).val; omega

end Cert.InprojRefIdeal.Math

end
-- ==== Proof.lean ====
/- The claims about two calls of the layer: its opening block (norm, in-projection, rotary turn, convolution) and its
   closing one (output projection, feed-forward block, per-layer embedding). Each program and its idealized copy terminate
   with their arguments unchanged, and over the reals' arithmetic each idealized program computes what its
   plain-mathematics reference computes. -/
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.Inproj
public import proofs.«01_k».proof.Proof.Gen.InprojIdeal
public import proofs.«01_k».proof.Proof.Gen.InprojIdeal.Value
public import proofs.«01_k».proof.Proof.Gen.InprojRefIdeal
public import proofs.«01_k».proof.Proof.Gen.InprojRefIdeal.Run
public import proofs.«01_k».proof.Proof.FfnBits
public import proofs.«01_k».proof.Proof.FfnResult
public import proofs.«01_k».proof.Proof.FfnReference
public import proofs.«01_k».proof.Proof.InprojBits
public import proofs.«01_k».proof.Proof.InprojResult
public import proofs.«01_k».proof.Proof.InprojReference
public import Idealize.ShloMosaic.Lib.Claim

@[expose] public section

noncomputable section

namespace Cert.Proof

open Idealize.ShloMosaic Idealize.ShloMosaic.TcCoe Idealize.SL.Sem
open Cert.FfnIdeal.Tile (arrays result)
open Cert.InprojIdeal.Tile renaming arrays → opening

/-- The closing block's reference terminates with its arguments unchanged; it has no semaphore. -/
theorem reference_quiet : Cert.quiescent_FfnRefIdeal := fun m g _ =>
  (θ_run _ _ _).mono (fun _ h => ⟨fun c => (h c).2, sem_eq_zero_of_no_sems (by decide) _⟩)
    (Cert.FfnRefIdeal.Value.run (F := Ideal) m g)

/-- The closing block and its reference have equal results: each is the array of the layer's rows. -/
theorem agree : Cert.algebraic_FfnIdeal_FfnRefIdeal := by
  intro m g m' g' _ hargs
  refine ⟨fun c => result m c, (θ_run _ _ _).mono (fun _ h c => ⟨(h c).1.trans (Cert.FfnIdeal.Tile.array_eq m c), (h c).2⟩)
    (Cert.FfnIdeal.Tile.run_blocks (F := Ideal) m g), (θ_run _ _ _).mono (fun _ h c => ⟨(h c).1.trans ?_, (h c).2⟩)
    (Cert.FfnRefIdeal.Value.run (F := Ideal) m' g')⟩
  obtain ⟨h0, h1, h2, h3, h4, h5, h6, h7, h8, h9, h10, h11, h12, h13, h14, h15⟩ := hargs c
  rw [Cert.FfnRefIdeal.Read.val_main_v104_eq]
  repeat rw [StableHlo.launchContents_devRef]
  rw [h0, h1, h2, h3, h4, h5, h6, h7, h8, h9, h10, h11, h12, h13, h14, h15]
  funext y
  rw [ValueIdx.eq_ix2 y]
  exact Cert.FfnRefIdeal.Math.result_at (arrays m c) (y 0) (y 1)

/-- The opening block's reference terminates with its arguments unchanged; it has no semaphore. -/
theorem opening_reference_quiet : Cert.quiescent_InprojRefIdeal := fun m g _ =>
  (θ_run _ _ _).mono (fun _ h => ⟨fun c => (h c).2.2.2.2.2.2.2, sem_eq_zero_of_no_sems (by decide) _⟩)
    (Cert.InprojRefIdeal.Value.run (F := Ideal) m g)

/-- The opening block and its reference have equal results: queries, keys, values and the memory's four inputs. -/
theorem opening_agree : Cert.algebraic_InprojIdeal_InprojRefIdeal := by
  intro m g m' g' _ hargs
  refine ⟨fun c => (opening m c).qOut, fun c => (opening m c).kOut, fun c => (opening m c).vOut,
    fun c => (opening m c).ucOut, fun c => (opening m c).vmOut, fun c => (opening m c).ogOut,
    fun c => (opening m c).gateOut, (θ_run _ _ _).mono (fun _ h c => ?_) (Cert.InprojIdeal.Value.run_blocks (F := Ideal) m g),
    (θ_run _ _ _).mono (fun _ h c => ?_) (Cert.InprojRefIdeal.Value.run (F := Ideal) m' g')⟩
  · obtain ⟨r0, r1, r2, r3, r4, r5, r6, kept⟩ := h c
    exact ⟨r0.trans (Cert.InprojIdeal.Tile.q_eq m c), r1.trans (Cert.InprojIdeal.Tile.k_eq m c),
      r2.trans (Cert.InprojIdeal.Tile.v_eq m c), r3.trans (Cert.InprojIdeal.Tile.uc_eq m c),
      r4.trans (Cert.InprojIdeal.Tile.vm_eq m c), r5.trans (Cert.InprojIdeal.Tile.og_eq m c),
      r6.trans (Cert.InprojIdeal.Tile.gate_eq m c), kept⟩
  · obtain ⟨h0, h1, h2, h3, h4, h5⟩ := hargs c
    obtain ⟨r0, r1, r2, r3, r4, r5, r6, kept⟩ := h c
    refine ⟨r0.trans ?_, r1.trans ?_, r2.trans ?_, r3.trans ?_, r4.trans ?_, r5.trans ?_, r6.trans ?_, kept⟩
    · rw [Cert.InprojRefIdeal.Read.val_main_v126_eq, h0, h1, h2, h3]
      exact Cert.InprojRefIdeal.Math.q_result (opening m c)
    · rw [Cert.InprojRefIdeal.Read.val_main_v128_eq, h0, h1, h2, h3]
      exact Cert.InprojRefIdeal.Math.k_result (opening m c)
    · rw [Cert.InprojRefIdeal.Read.val_main_v130_eq]
      repeat rw [StableHlo.launchContents_devRef]
      rw [h0, h2, h3]
      exact Cert.InprojRefIdeal.Math.v_result (opening m c)
    · rw [Cert.InprojRefIdeal.Read.val_main_v132_eq, h0, h2, h3, h4, h5]
      exact Cert.InprojRefIdeal.Math.uc_result (opening m c)
    · rw [Cert.InprojRefIdeal.Read.val_main_v134_eq]
      repeat rw [StableHlo.launchContents_devRef]
      rw [h0, h2, h3]
      exact Cert.InprojRefIdeal.Math.vm_result (opening m c)
    · rw [Cert.InprojRefIdeal.Read.val_main_v141_eq]
      repeat rw [StableHlo.launchContents_devRef]
      rw [h0, h2, h3]
      exact Cert.InprojRefIdeal.Math.og_result (opening m c)
    · rw [Cert.InprojRefIdeal.Read.val_main_v143_eq]
      repeat rw [StableHlo.launchContents_devRef]
      rw [h0, h2, h3]
      exact Cert.InprojRefIdeal.Math.gate_result (opening m c)

/-- All ten claims. -/
theorem claim : Cert.Claim := ⟨Cert.Ffn.Gen.facts, Cert.FfnIdeal.Gen.facts, Cert.FfnRefIdeal.Gen.facts,
  Cert.Inproj.Gen.facts, Cert.InprojIdeal.Gen.facts, Cert.InprojRefIdeal.Gen.facts,
  Cert.Ffn.Tile.quiet, fun m g _ => Cert.FfnIdeal.Tile.frame m g, reference_quiet,
  Cert.Inproj.Tile.quiet, fun m g _ => Cert.InprojIdeal.Gen.frame m g, opening_reference_quiet,
  trivial, agree, trivial, opening_agree⟩

end Cert.Proof

end
